-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3DE995B3#32 (((Real.sqrt 160)⁻¹ * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x24x160 : Shape := ⟨4, ![3, 512, 24, 160]⟩
abbrev S3x512x8x160 : Shape := ⟨4, ![3, 512, 8, 160]⟩
abbrev S3x512x8 : Shape := ⟨3, ![3, 512, 8]⟩
abbrev S3x24x96 : Shape := ⟨3, ![3, 24, 96]⟩
abbrev S3x24x224 : Shape := ⟨3, ![3, 24, 224]⟩
abbrev S3x24x160x512 : Shape := ⟨4, ![3, 24, 160, 512]⟩
abbrev S3x8x160x512 : Shape := ⟨4, ![3, 8, 160, 512]⟩
abbrev S3x8x512 : Shape := ⟨3, ![3, 8, 512]⟩
abbrev S3x512x3840 : Shape := ⟨3, ![3, 512, 3840]⟩
abbrev S1x12x160x512 : Shape := ⟨4, ![1, 12, 160, 512]⟩
abbrev S1x4x160x512 : Shape := ⟨4, ![1, 4, 160, 512]⟩
abbrev S1x8x512 : Shape := ⟨3, ![1, 8, 512]⟩
abbrev S1x24x96 : Shape := ⟨3, ![1, 24, 96]⟩
abbrev S1x24x224 : Shape := ⟨3, ![1, 24, 224]⟩
abbrev S1x512x1920 : Shape := ⟨3, ![1, 512, 1920]⟩
abbrev S128x128 : Shape := ⟨2, ![128, 128]⟩
abbrev S1x1x160x512 : Shape := ⟨4, ![1, 1, 160, 512]⟩
abbrev S160x512 : Shape := ⟨2, ![160, 512]⟩
abbrev S512x160 : Shape := ⟨2, ![512, 160]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S1x1x96 : Shape := ⟨3, ![1, 1, 96]⟩
abbrev S1x96 : Shape := ⟨2, ![1, 96]⟩
abbrev S1x1x224 : Shape := ⟨3, ![1, 1, 224]⟩
abbrev S1x224 : Shape := ⟨2, ![1, 224]⟩
abbrev S8x224 : Shape := ⟨2, ![8, 224]⟩
abbrev S128x224 : Shape := ⟨2, ![128, 224]⟩
abbrev S8x128 : Shape := ⟨2, ![8, 128]⟩
abbrev S1x128 : Shape := ⟨2, ![1, 128]⟩
abbrev S8x96 : Shape := ⟨2, ![8, 96]⟩
abbrev S128x96 : Shape := ⟨2, ![128, 96]⟩
abbrev S256x160 : Shape := ⟨2, ![256, 160]⟩
abbrev S160x256 : Shape := ⟨2, ![160, 256]⟩
abbrev S256x256 : Shape := ⟨2, ![256, 256]⟩
abbrev S16x8x128 : Shape := ⟨3, ![16, 8, 128]⟩
abbrev S128 : Shape := ⟨1, ![128]⟩
abbrev S256x128 : Shape := ⟨2, ![256, 128]⟩
abbrev S1x256 : Shape := ⟨2, ![1, 256]⟩
abbrev S512x256 : Shape := ⟨2, ![512, 256]⟩
abbrev S640x512 : Shape := ⟨2, ![640, 512]⟩
abbrev S512x640 : Shape := ⟨2, ![512, 640]⟩
abbrev S1x512x640 : Shape := ⟨3, ![1, 512, 640]⟩

abbrev nBuf : Space → Nat
  | .hbm => 13
  | .vmem => 16
  | .smem => 0
  | _ => 0

abbrev bufTy : (tb : Table) → Fin (tcTables nBuf tb) → BufTy
  | .hbm, ⟨0, _⟩ => ⟨S3x512x24x160, .bf16⟩
  | .hbm, ⟨1, _⟩ => ⟨S3x512x8x160, .fp8e4m3⟩
  | .hbm, ⟨2, _⟩ => ⟨S3x512x8, .f32⟩
  | .hbm, ⟨3, _⟩ => ⟨S3x512x8x160, .fp8e4m3⟩
  | .hbm, ⟨4, _⟩ => ⟨S3x512x8, .f32⟩
  | .hbm, ⟨5, _⟩ => ⟨S3x24x96, .i32⟩
  | .hbm, ⟨6, _⟩ => ⟨S3x24x224, .i32⟩
  | .hbm, ⟨7, _⟩ => ⟨S3x24x160x512, .bf16⟩
  | .hbm, ⟨8, _⟩ => ⟨S3x8x160x512, .fp8e4m3⟩
  | .hbm, ⟨9, _⟩ => ⟨S3x8x160x512, .fp8e4m3⟩
  | .hbm, ⟨10, _⟩ => ⟨S3x8x512, .f32⟩
  | .hbm, ⟨11, _⟩ => ⟨S3x8x512, .f32⟩
  | .hbm, ⟨12, _⟩ => ⟨S3x512x3840, .bf16⟩
  | .local _ .vmem, ⟨0, _⟩ => ⟨S1x12x160x512, .bf16⟩
  | .local _ .vmem, ⟨1, _⟩ => ⟨S1x12x160x512, .bf16⟩
  | .local _ .vmem, ⟨2, _⟩ => ⟨S1x4x160x512, .fp8e4m3⟩
  | .local _ .vmem, ⟨3, _⟩ => ⟨S1x4x160x512, .fp8e4m3⟩
  | .local _ .vmem, ⟨4, _⟩ => ⟨S1x8x512, .f32⟩
  | .local _ .vmem, ⟨5, _⟩ => ⟨S1x8x512, .f32⟩
  | .local _ .vmem, ⟨6, _⟩ => ⟨S1x4x160x512, .fp8e4m3⟩
  | .local _ .vmem, ⟨7, _⟩ => ⟨S1x4x160x512, .fp8e4m3⟩
  | .local _ .vmem, ⟨8, _⟩ => ⟨S1x8x512, .f32⟩
  | .local _ .vmem, ⟨9, _⟩ => ⟨S1x8x512, .f32⟩
  | .local _ .vmem, ⟨10, _⟩ => ⟨S1x24x96, .i32⟩
  | .local _ .vmem, ⟨11, _⟩ => ⟨S1x24x96, .i32⟩
  | .local _ .vmem, ⟨12, _⟩ => ⟨S1x24x224, .i32⟩
  | .local _ .vmem, ⟨13, _⟩ => ⟨S1x24x224, .i32⟩
  | .local _ .vmem, ⟨14, _⟩ => ⟨S1x512x1920, .bf16⟩
  | .local _ .vmem, ⟨15, _⟩ => ⟨S1x512x1920, .bf16⟩
  | _, _ => ⟨S3x512x24x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 2], ![false, false]⟩

def k0_off1 (i : grid0.Coords) (c0_i32 : BitVec 32) : Fin 3 → Nat :=
  let c0_3 : Index := 0#32
  let arg1 : BitVec 32 := BitVec.ofNat 32 (i 1).val
  let c4_i32 : BitVec 32 := 4#32
  let v2 : BitVec 32 := Scalar.muli arg1 c4_i32
  let v3 : BitVec 32 := Scalar.addi v2 c0_i32
  let v8 : Index := Scalar.indexCast v3
  let c0_4 : Index := 0#32
  ![0, v8.toNat, 0]
def k0_off2 (i : grid0.Coords) (c0_i32 : BitVec 32) (c0_i32_11 : BitVec 32) : Fin 3 → Nat :=
  let c0_16 : Index := 0#32
  let arg1 : BitVec 32 := BitVec.ofNat 32 (i 1).val
  let c4_i32 : BitVec 32 := 4#32
  let v2 : BitVec 32 := Scalar.muli arg1 c4_i32
  let v3 : BitVec 32 := Scalar.addi v2 c0_i32
  let c3_i32 : BitVec 32 := 3#32
  let v25 : BitVec 32 := Scalar.muli v3 c3_i32
  let v26 : BitVec 32 := Scalar.addi v25 c0_i32_11
  let v29 : Index := Scalar.indexCast v26
  let c0_17 : Index := 0#32
  ![0, v29.toNat, 0]
def k0_off3 (i : grid0.Coords) (c0_i32 : BitVec 32) (c0_i32_11 : BitVec 32) : Fin 3 → Nat :=
  let c0_18 : Index := 0#32
  let arg1 : BitVec 32 := BitVec.ofNat 32 (i 1).val
  let c4_i32 : BitVec 32 := 4#32
  let v2 : BitVec 32 := Scalar.muli arg1 c4_i32
  let v3 : BitVec 32 := Scalar.addi v2 c0_i32
  let c3_i32 : BitVec 32 := 3#32
  let v25 : BitVec 32 := Scalar.muli v3 c3_i32
  let v26 : BitVec 32 := Scalar.addi v25 c0_i32_11
  let v32 : Index := Scalar.indexCast v26
  let c0_19 : Index := 0#32
  ![0, v32.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x12x160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x160x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x160x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x24x96 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x24x224 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1920 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | "scale_log2e" => some (((Real.sqrt 160)⁻¹ * (Real.log 2)⁻¹ : ℝ) : EReal)
  | _ => none
-- ==== ReferenceIdeal.lean ====
abbrev S3x512x24x160 : Shape := ⟨4, ![3, 512, 24, 160]⟩
abbrev S3x512x8x160 : Shape := ⟨4, ![3, 512, 8, 160]⟩
abbrev S3x512x8 : Shape := ⟨3, ![3, 512, 8]⟩
abbrev S3x24x96 : Shape := ⟨3, ![3, 24, 96]⟩
abbrev S3x24x224 : Shape := ⟨3, ![3, 24, 224]⟩
abbrev S3x8x512 : Shape := ⟨3, ![3, 8, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S3x24x1x96 : Shape := ⟨4, ![3, 24, 1, 96]⟩
abbrev S1x1x512x1 : Shape := ⟨4, ![1, 1, 512, 1]⟩
abbrev S3x24x512x96 : Shape := ⟨4, ![3, 24, 512, 96]⟩
abbrev S3x24x512 : Shape := ⟨3, ![3, 24, 512]⟩
abbrev S3x24x1x1x224 : Shape := ⟨5, ![3, 24, 1, 1, 224]⟩
abbrev S512x512x1 : Shape := ⟨3, ![512, 512, 1]⟩
abbrev S1x1x512x512x1 : Shape := ⟨5, ![1, 1, 512, 512, 1]⟩
abbrev S3x24x512x512x224 : Shape := ⟨5, ![3, 24, 512, 512, 224]⟩
abbrev S3x24x512x512 : Shape := ⟨4, ![3, 24, 512, 512]⟩
abbrev S3x24x1x512 : Shape := ⟨4, ![3, 24, 1, 512]⟩
abbrev S1x1x512x512 : Shape := ⟨4, ![1, 1, 512, 512]⟩
abbrev S3x8x3x512x512 : Shape := ⟨5, ![3, 8, 3, 512, 512]⟩
abbrev S3x512x8x3x160 : Shape := ⟨5, ![3, 512, 8, 3, 160]⟩
abbrev S3x8x512x512x3 : Shape := ⟨5, ![3, 8, 512, 512, 3]⟩
abbrev S3x8x1x1x512 : Shape := ⟨5, ![3, 8, 1, 1, 512]⟩
abbrev S3x8x3x512 : Shape := ⟨4, ![3, 8, 3, 512]⟩
abbrev S3x8x3x512x1 : Shape := ⟨5, ![3, 8, 3, 512, 1]⟩
abbrev S3x8x160x3x512 : Shape := ⟨5, ![3, 8, 160, 3, 512]⟩
abbrev S3x512x3840 : Shape := ⟨3, ![3, 512, 3840]⟩

abbrev nBuf : Space → Nat
  | .hbm => 83
  | .vmem => 4
  | .smem => 0
  | _ => 0

abbrev bufTy : (tb : Table) → Fin (tcTables nBuf tb) → BufTy
  | .hbm, ⟨0, _⟩ => ⟨S3x512x24x160, .bf16⟩
  | .hbm, ⟨1, _⟩ => ⟨S3x512x8x160, .fp8e4m3⟩
  | .hbm, ⟨2, _⟩ => ⟨S3x512x8, .f32⟩
  | .hbm, ⟨3, _⟩ => ⟨S3x512x8x160, .fp8e4m3⟩
  | .hbm, ⟨4, _⟩ => ⟨S3x512x8, .f32⟩
  | .hbm, ⟨5, _⟩ => ⟨S3x24x96, .i32⟩
  | .hbm, ⟨6, _⟩ => ⟨S3x24x224, .i32⟩
  | .hbm, ⟨7, _⟩ => ⟨S3x512x8x160, .bf16⟩
  | .hbm, ⟨8, _⟩ => ⟨S3x512x8x160, .bf16⟩
  | .hbm, ⟨9, _⟩ => ⟨S3x8x512, .f32⟩
  | .hbm, ⟨10, _⟩ => ⟨S_, .f32⟩
  | .hbm, ⟨11, _⟩ => ⟨S_, .f32⟩
  | .hbm, ⟨12, _⟩ => ⟨S3x8x512, .f32⟩
  | .hbm, ⟨13, _⟩ => ⟨S3x8x512, .f32⟩
  | .hbm, ⟨14, _⟩ => ⟨S3x8x512, .f32⟩
  | .hbm, ⟨15, _⟩ => ⟨S512, .i32⟩
  | .hbm, ⟨16, _⟩ => ⟨S512x1, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S3x24x1x96, .i32⟩
  | .hbm, ⟨22, _⟩ => ⟨S512x1, .i32⟩
  | .hbm, ⟨23, _⟩ => ⟨S1x1x512x1, .i32⟩
  | .hbm, ⟨24, _⟩ => ⟨S3x24x512x96, .i32⟩
  | .hbm, ⟨25, _⟩ => ⟨S3x24x512x96, .i32⟩
  | .hbm, ⟨26, _⟩ => ⟨S3x24x512x96, .i1⟩
  | .hbm, ⟨27, _⟩ => ⟨S_, .i1⟩
  | .hbm, ⟨28, _⟩ => ⟨S3x24x512, .i1⟩
  | .hbm, ⟨29, _⟩ => ⟨S3x24x1x1x224, .i32⟩
  | .hbm, ⟨30, _⟩ => ⟨S512x512x1, .i32⟩
  | .hbm, ⟨31, _⟩ => ⟨S1x1x512x512x1, .i32⟩
  | .hbm, ⟨32, _⟩ => ⟨S3x24x512x512x224, .i32⟩
  | .hbm, ⟨33, _⟩ => ⟨S3x24x512x512x224, .i32⟩
  | .hbm, ⟨34, _⟩ => ⟨S3x24x512x512x224, .i1⟩
  | .hbm, ⟨35, _⟩ => ⟨S_, .i1⟩
  | .hbm, ⟨36, _⟩ => ⟨S3x24x512x512, .i1⟩
  | .hbm, ⟨37, _⟩ => ⟨S_, .i32⟩
  | .hbm, ⟨38, _⟩ => ⟨S512x512, .i32⟩
  | .hbm, ⟨39, _⟩ => ⟨S512x512, .i1⟩
  | .hbm, ⟨40, _⟩ => ⟨S3x24x1x512, .i1⟩
  | .hbm, ⟨41, _⟩ => ⟨S3x24x512x512, .i1⟩
  | .hbm, ⟨42, _⟩ => ⟨S3x24x512x512, .i1⟩
  | .hbm, ⟨43, _⟩ => ⟨S1x1x512x512, .i1⟩
  | .hbm, ⟨44, _⟩ => ⟨S3x24x512x512, .i1⟩
  | .hbm, ⟨45, _⟩ => ⟨S3x24x512x512, .i1⟩
  | .hbm, ⟨46, _⟩ => ⟨S3x8x3x512x512, .i1⟩
  | .hbm, ⟨47, _⟩ => ⟨S3x512x8x3x160, .bf16⟩
  | .hbm, ⟨48, _⟩ => ⟨S3x8x512x512x3, .f32⟩
  | .hbm, ⟨49, _⟩ => ⟨S3x8x3x512x512, .f32⟩
  | .hbm, ⟨50, _⟩ => ⟨S3x8x1x1x512, .f32⟩
  | .hbm, ⟨51, _⟩ => ⟨S3x8x3x512x512, .f32⟩
  | .hbm, ⟨52, _⟩ => ⟨S3x8x3x512x512, .f32⟩
  | .hbm, ⟨53, _⟩ => ⟨S_, .f32⟩
  | .hbm, ⟨54, _⟩ => ⟨S_, .f32⟩
  | .hbm, ⟨55, _⟩ => ⟨S3x8x3x512x512, .f32⟩
  | .hbm, ⟨56, _⟩ => ⟨S3x8x3x512x512, .f32⟩
  | .hbm, ⟨57, _⟩ => ⟨S_, .f32⟩
  | .hbm, ⟨58, _⟩ => ⟨S3x8x3x512, .f32⟩
  | .hbm, ⟨59, _⟩ => ⟨S3x8x3x512x1, .f32⟩
  | .hbm, ⟨60, _⟩ => ⟨S3x8x3x512x512, .f32⟩
  | .hbm, ⟨61, _⟩ => ⟨S3x8x3x512x512, .f32⟩
  | .hbm, ⟨62, _⟩ => ⟨S3x8x3x512x512, .f32⟩
  | .hbm, ⟨63, _⟩ => ⟨S_, .f32⟩
  | .hbm, ⟨64, _⟩ => ⟨S3x8x3x512, .f32⟩
  | .hbm, ⟨65, _⟩ => ⟨S3x8x3x512x1, .f32⟩
  | .hbm, ⟨66, _⟩ => ⟨S_, .f32⟩
  | .hbm, ⟨67, _⟩ => ⟨S3x8x3x512x1, .f32⟩
  | .hbm, ⟨68, _⟩ => ⟨S3x8x3x512x1, .i1⟩
  | .hbm, ⟨69, _⟩ => ⟨S_, .f32⟩
  | .hbm, ⟨70, _⟩ => ⟨S_, .f32⟩
  | .hbm, ⟨71, _⟩ => ⟨S3x8x3x512x1, .f32⟩
  | .hbm, ⟨72, _⟩ => ⟨S3x8x3x512x1, .f32⟩
  | .hbm, ⟨73, _⟩ => ⟨S3x8x3x512x512, .f32⟩
  | .hbm, ⟨74, _⟩ => ⟨S3x8x3x512x512, .f32⟩
  | .hbm, ⟨75, _⟩ => ⟨S3x8x1x1x512, .f32⟩
  | .hbm, ⟨76, _⟩ => ⟨S3x8x3x512x512, .f32⟩
  | .hbm, ⟨77, _⟩ => ⟨S3x8x3x512x512, .f32⟩
  | .hbm, ⟨78, _⟩ => ⟨S3x8x3x512x512, .bf16⟩
  | .hbm, ⟨79, _⟩ => ⟨S3x8x160x3x512, .f32⟩
  | .hbm, ⟨80, _⟩ => ⟨S3x512x8x3x160, .f32⟩
  | .hbm, ⟨81, _⟩ => ⟨S3x512x3840, .f32⟩
  | .hbm, ⟨82, _⟩ => ⟨S3x512x3840, .bf16⟩
  | .local _ .vmem, ⟨0, _⟩ => ⟨S3x512x8x160, .fp8e4m3⟩
  | .local _ .vmem, ⟨1, _⟩ => ⟨S3x512x8x160, .fp8e4m3⟩
  | .local _ .vmem, ⟨2, _⟩ => ⟨S3x512x8x160, .bf16⟩
  | .local _ .vmem, ⟨3, _⟩ => ⟨S3x512x8x160, .bf16⟩
  | _, _ => ⟨S3x512x24x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_0 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_call0_v0 : Ref sig .tc := ⟨.hbm, 54, rfl⟩
abbrev main_call0_v1 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x512x8x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x8x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x8x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x8x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Head.lean ====
/-
  One head of the kernel as a composition of named steps, and the kernel's three stores in these terms.

  The kernel's body repeats the same operations for each of the twelve heads of a grid point. `headOut` is that
  composition, once: the mask word (`maskWord`), the masked scores of one 128 by 128 block (`masked`), their column
  maximum, weights and normaliser, and the weighted sum of the values. `store_first`, `store_second` and `store_third`
  (Pieces.lean) say that what the body stores is `headOut` of each head, four heads to a store.
-/
module

public import proofs.«01_k».proof.Proof.Gen.KernelIdeal.Value
public import Idealize.ShloMosaic.Init

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F] [Named F]

/-! ## The mask word -/

/-- Entry `(hi, lo)` says whether `128 hi + lo` is one of the 96 vertical positions. -/
def vertMembers (idx : IVec S1x96 32) : IVec S8x128 1 :=
  cmpf .ogt
    (matmul (F := F) dot_S8x96_S128x96_S8x128_1_1_0_0_n_n none
      (truncf .bf16
        (select
          (cmpi .eq (broadcastTo S8x96 (shrui idx (broadcast S1x96 7#32)) broadcasts_S1x96_S8x96)
            (iota .tc S8x96 32 [0] iota_S8x96_d0_w32))
          (broadcast S8x96 (Scalar.ofBits .f32 0x3F800000#32 : F .f32))
          (broadcast S8x96 (Scalar.ofBits .f32 0x00000000#32 : F .f32))) bitsLt_bf16_f32)
      (truncf .bf16
        (select
          (cmpi .eq (broadcastTo S128x96 (andi idx (broadcast S1x96 127#32)) broadcasts_S1x96_S128x96)
            (iota .tc S128x96 32 [0] iota_S128x96_d0_w32))
          (broadcast S128x96 (Scalar.ofBits .f32 0x3F800000#32 : F .f32))
          (broadcast S128x96 (Scalar.ofBits .f32 0x00000000#32 : F .f32))) bitsLt_bf16_f32)
      (constant S8x128 .f32 0x00000000#32))
    (broadcast S8x128 (Scalar.ofBits .f32 0x3F000000#32 : F .f32))

/-- Entry `(hi, lo)` says whether `128 hi + lo` is one of the 224 slash offsets. -/
def slashMembers (idx : IVec S1x224 32) : IVec S8x128 1 :=
  cmpf .ogt
    (matmul (F := F) dot_S8x224_S128x224_S8x128_1_1_0_0_n_n none
      (truncf .bf16
        (select
          (cmpi .eq (broadcastTo S8x224 (shrui idx (broadcast S1x224 7#32)) broadcasts_S1x224_S8x224)
            (iota .tc S8x224 32 [0] iota_S8x224_d0_w32))
          (broadcast S8x224 (Scalar.ofBits .f32 0x3F800000#32 : F .f32))
          (broadcast S8x224 (Scalar.ofBits .f32 0x00000000#32 : F .f32))) bitsLt_bf16_f32)
      (truncf .bf16
        (select
          (cmpi .eq (broadcastTo S128x224 (andi idx (broadcast S1x224 127#32)) broadcasts_S1x224_S128x224)
            (iota .tc S128x224 32 [0] iota_S128x224_d0_w32))
          (broadcast S128x224 (Scalar.ofBits .f32 0x3F800000#32 : F .f32))
          (broadcast S128x224 (Scalar.ofBits .f32 0x00000000#32 : F .f32))) bitsLt_bf16_f32)
      (constant S8x128 .f32 0x00000000#32))
    (broadcast S8x128 (Scalar.ofBits .f32 0x3F000000#32 : F .f32))

/-- Lane by lane, the sum of `w0` … `w3` over those of the first four rows of `mem` that hold the lane. -/
def packed (w0 w1 w2 w3 : BitVec 32) (mem : IVec S8x128 1) : IVec S1x128 32 :=
  addi (addi (addi (addi (broadcast S1x128 0#32)
    (select (extractStridedSlice S1x128 ![0, 0] mem slices_S8x128_o0_0_S1x128) (broadcast S1x128 w0) (broadcast S1x128 0#32)))
    (select (extractStridedSlice S1x128 ![1, 0] mem slices_S8x128_o1_0_S1x128) (broadcast S1x128 w1) (broadcast S1x128 0#32)))
    (select (extractStridedSlice S1x128 ![2, 0] mem slices_S8x128_o2_0_S1x128) (broadcast S1x128 w2) (broadcast S1x128 0#32)))
    (select (extractStridedSlice S1x128 ![3, 0] mem slices_S8x128_o3_0_S1x128) (broadcast S1x128 w3) (broadcast S1x128 0#32))

/-- The 16 mask bits of each (key, query) pair of positions within a block, from the packed lanes of the two index lists. -/
def wordOf (slash vert : IVec S1x128 32) : IVec S128x128 32 :=
  select
    (cmpi .sge (iota .tc S128x128 32 [1] iota_S128x128_d1_w32) (iota .tc S128x128 32 [0] iota_S128x128_d0_w32))
    (ori
      (dynamicRotate 1 0#32 (some (1, 0))
        (broadcastTo S128x128 (shapeCast S1x128 slash shapeCasts_S1x128_S1x128) broadcasts_S1x128_S128x128)
        rotates_S128x128_d1s1a0)
      (transpose S128x128 [1, 0]
        (broadcastTo S128x128 (shapeCast S1x128 vert shapeCasts_S1x128_S1x128) broadcasts_S1x128_S128x128)
        transposes_S128x128_p1_0_S128x128))
    (shli
      (ori
        (dynamicRotate 1 0#32 (some (1, 0))
          (broadcastTo S128x128 (shapeCast S1x128 slash shapeCasts_S1x128_S1x128) broadcasts_S1x128_S128x128)
          rotates_S128x128_d1s1a0)
        (transpose S128x128 [1, 0]
          (broadcastTo S128x128 (shapeCast S1x128 vert shapeCasts_S1x128_S1x128) broadcasts_S1x128_S128x128)
          transposes_S128x128_p1_0_S128x128))
      (broadcast S128x128 4#32))

/-- The mask word of a head. -/
def maskWord (vidx : Vec F S1x1x96 .i32) (sidx : Vec F S1x1x224 .i32) : IVec S128x128 32 :=
  wordOf
    (packed 15#32 240#32 3840#32 61440#32
      (slashMembers (F := F) (shapeCast S1x224 sidx shapeCasts_S1x1x224_S1x224)))
    (packed 4369#32 8738#32 17476#32 34952#32
      (vertMembers (F := F) (shapeCast S1x96 vidx shapeCasts_S1x1x96_S1x96)))

/-! ## One column block of weights -/

/-- One block of scaled scores with the pairs the bit does not allow at the mask value. -/
def masked (w : IVec S128x128 32) (bit : BitVec 32) (s kc : FVec F S128x128 .f32) : FVec F S128x128 .f32 :=
  select (cmpi .ne (andi w (broadcast S128x128 bit)) (broadcast S128x128 0#32)) (mulf s kc)
    (broadcast S128x128 (Named.named κ "mask" 0xF149F2CA#32 : F .f32))

/-- The maxima of a block's 16 groups of 8 keys. -/
def max8 (x : FVec F S128x128 .f32) : FVec F S8x128 .f32 :=
  multiReduction .maximumf [0] S8x128 (shapeCast S16x8x128 x shapeCasts_S128x128_S16x8x128) 0xFF800000#32
    reduces_S16x8x128_S8x128 (.inl rfl) rfl

/-- The maximum of each query's column. -/
def colMax (m8 : FVec F S8x128 .f32) : FVec F S1x128 .f32 :=
  shapeCast S1x128 (multiReduction .maximumf [0] S128 m8 0xFF800000#32 reduces_S8x128_S128 (.inl rfl) rfl)
    shapeCasts_S128_S1x128

/-- The weights of a block, unnormalised. -/
def prob (x : FVec F S128x128 .f32) (m : FVec F S1x128 .f32) : FVec F S128x128 .f32 :=
  exp2 (subf x (broadcastTo S128x128 m broadcasts_S1x128_S128x128))

/-- The sums of a block's 16 groups of 8 weights. -/
def sum8 (p : FVec F S128x128 .f32) : FVec F S8x128 .f32 :=
  multiReduction .add [0] S8x128 (shapeCast S16x8x128 p shapeCasts_S128x128_S16x8x128) 0x00000000#32
    reduces_S16x8x128_S8x128 (.inl rfl) rfl

/-- The zero a query's sum of weights starts from. -/
def zero8 : FVec F S8x128 .f32 := broadcast S8x128 (Scalar.ofBits .f32 0x00000000#32 : F .f32)

/-- One over the sum of each query's weights. -/
def invSum (l8 : FVec F S8x128 .f32) : FVec F S1x128 .f32 :=
  divf (broadcast S1x128 (Scalar.ofBits .f32 0x3F800000#32 : F .f32))
    (shapeCast S1x128 (multiReduction .add [0] S128 l8 0x00000000#32 reduces_S8x128_S128 (.inl rfl) rfl)
      shapeCasts_S128_S1x128)

/-- Weights of keys the query block does not reach. -/
def zeroBlk : FVec F S128x128 .bf16 := broadcast S128x128 (Scalar.ofBits .bf16 0x0000#16 : F .bf16)

/-- The weights as the second matrix product takes them. -/
def toB (p : FVec F S128x128 .f32) : FVec F S128x128 .bf16 := truncf .bf16 p bitsLt_bf16_f32

/-- The column maximum of query block 0, 1, 2, 3. -/
def m0 (x0 : FVec F S128x128 .f32) : FVec F S1x128 .f32 := colMax (max8 x0)
def m1 (x0 x1 : FVec F S128x128 .f32) : FVec F S1x128 .f32 := colMax (maximumf (max8 x0) (max8 x1))
def m2 (x0 x1 x2 : FVec F S128x128 .f32) : FVec F S1x128 .f32 :=
  colMax (maximumf (maximumf (max8 x0) (max8 x1)) (max8 x2))
def m3 (x0 x1 x2 x3 : FVec F S128x128 .f32) : FVec F S1x128 .f32 :=
  colMax (maximumf (maximumf (maximumf (max8 x0) (max8 x1)) (max8 x2)) (max8 x3))

/-- The weights of query block 0, 1 (over 256 keys) and 2, 3 (over 512 keys), from the blocks of scores. -/
def p0 (x0 : FVec F S128x128 .f32) : FVec F S256x128 .bf16 :=
  concatenate S256x128 0 [⟨S128x128, toB (prob x0 (m0 x0))⟩, ⟨S128x128, zeroBlk⟩] concatenates_S128x128_S128x128_S256x128_d0
def p1 (x0 x1 : FVec F S128x128 .f32) : FVec F S256x128 .bf16 :=
  concatenate S256x128 0 [⟨S128x128, toB (prob x0 (m1 x0 x1))⟩, ⟨S128x128, toB (prob x1 (m1 x0 x1))⟩]
    concatenates_S128x128_S128x128_S256x128_d0
def p2 (x0 x1 x2 : FVec F S128x128 .f32) : FVec F S512x128 .bf16 :=
  concatenate S512x128 0 [⟨S128x128, toB (prob x0 (m2 x0 x1 x2))⟩, ⟨S128x128, toB (prob x1 (m2 x0 x1 x2))⟩,
    ⟨S128x128, toB (prob x2 (m2 x0 x1 x2))⟩, ⟨S128x128, zeroBlk⟩]
    concatenates_S128x128_S128x128_S128x128_S128x128_S512x128_d0
def p3 (x0 x1 x2 x3 : FVec F S128x128 .f32) : FVec F S512x128 .bf16 :=
  concatenate S512x128 0 [⟨S128x128, toB (prob x0 (m3 x0 x1 x2 x3))⟩, ⟨S128x128, toB (prob x1 (m3 x0 x1 x2 x3))⟩,
    ⟨S128x128, toB (prob x2 (m3 x0 x1 x2 x3))⟩, ⟨S128x128, toB (prob x3 (m3 x0 x1 x2 x3))⟩]
    concatenates_S128x128_S128x128_S128x128_S128x128_S512x128_d0

/-- One over the sum of the weights of query block 0, 1, 2, 3. -/
def l0 (x0 : FVec F S128x128 .f32) : FVec F S1x128 .f32 := invSum (addf zero8 (sum8 (prob x0 (m0 x0))))
def l1 (x0 x1 : FVec F S128x128 .f32) : FVec F S1x128 .f32 :=
  invSum (addf (addf zero8 (sum8 (prob x0 (m1 x0 x1)))) (sum8 (prob x1 (m1 x0 x1))))
def l2 (x0 x1 x2 : FVec F S128x128 .f32) : FVec F S1x128 .f32 :=
  invSum (addf (addf (addf zero8 (sum8 (prob x0 (m2 x0 x1 x2)))) (sum8 (prob x1 (m2 x0 x1 x2))))
    (sum8 (prob x2 (m2 x0 x1 x2))))
def l3 (x0 x1 x2 x3 : FVec F S128x128 .f32) : FVec F S1x128 .f32 :=
  invSum (addf (addf (addf (addf zero8 (sum8 (prob x0 (m3 x0 x1 x2 x3)))) (sum8 (prob x1 (m3 x0 x1 x2 x3))))
    (sum8 (prob x2 (m3 x0 x1 x2 x3)))) (sum8 (prob x3 (m3 x0 x1 x2 x3))))

/-! ## The two halves of a head's queries -/

/-- The scores of the first 256 queries against the first 256 keys. -/
def scoreA (k : FVec F S512x160 .bf16) (q : FVec F S160x512 .bf16) : FVec F S256x256 .f32 :=
  matmul dot_S256x160_S160x256_S256x256_1_0_0_1_n_n none
    (extractStridedSlice S256x160 ![0, 0] k slices_S512x160_o0_0_S256x160)
    (extractStridedSlice S160x256 ![0, 0] q slices_S160x512_o0_0_S160x256) (constant S256x256 .f32 0x00000000#32)

/-- The scores of the last 256 queries against all keys. -/
def scoreB (k : FVec F S512x160 .bf16) (q : FVec F S160x512 .bf16) : FVec F S512x256 .f32 :=
  matmul dot_S512x160_S160x256_S512x256_1_0_0_1_n_n none k
    (extractStridedSlice S160x256 ![0, 256] q slices_S160x512_o0_256_S160x256) (constant S512x256 .f32 0x00000000#32)

/-- The four blocks of key scales. -/
def kc0 (kc : FVec F S512x128 .f32) : FVec F S128x128 .f32 := extractStridedSlice S128x128 ![0, 0] kc slices_S512x128_o0_0_S128x128
def kc1 (kc : FVec F S512x128 .f32) : FVec F S128x128 .f32 := extractStridedSlice S128x128 ![128, 0] kc slices_S512x128_o128_0_S128x128
def kc2 (kc : FVec F S512x128 .f32) : FVec F S128x128 .f32 := extractStridedSlice S128x128 ![256, 0] kc slices_S512x128_o256_0_S128x128
def kc3 (kc : FVec F S512x128 .f32) : FVec F S128x128 .f32 := extractStridedSlice S128x128 ![384, 0] kc slices_S512x128_o384_0_S128x128

/-- Block `x i j`: the masked scores of query block `i` against key block `j`. -/
def x00 (s : FVec F S256x256 .f32) (kc : FVec F S512x128 .f32) (w : IVec S128x128 32) : FVec F S128x128 .f32 :=
  masked w 1#32 (extractStridedSlice S128x128 ![0, 0] s slices_S256x256_o0_0_S128x128) (kc0 kc)
def x10 (s : FVec F S256x256 .f32) (kc : FVec F S512x128 .f32) (w : IVec S128x128 32) : FVec F S128x128 .f32 :=
  masked w 16#32 (extractStridedSlice S128x128 ![0, 128] s slices_S256x256_o0_128_S128x128) (kc0 kc)
def x11 (s : FVec F S256x256 .f32) (kc : FVec F S512x128 .f32) (w : IVec S128x128 32) : FVec F S128x128 .f32 :=
  masked w 2#32 (extractStridedSlice S128x128 ![128, 128] s slices_S256x256_o128_128_S128x128) (kc1 kc)
def x20 (s : FVec F S512x256 .f32) (kc : FVec F S512x128 .f32) (w : IVec S128x128 32) : FVec F S128x128 .f32 :=
  masked w 256#32 (extractStridedSlice S128x128 ![0, 0] s slices_S512x256_o0_0_S128x128) (kc0 kc)
def x21 (s : FVec F S512x256 .f32) (kc : FVec F S512x128 .f32) (w : IVec S128x128 32) : FVec F S128x128 .f32 :=
  masked w 32#32 (extractStridedSlice S128x128 ![128, 0] s slices_S512x256_o128_0_S128x128) (kc1 kc)
def x22 (s : FVec F S512x256 .f32) (kc : FVec F S512x128 .f32) (w : IVec S128x128 32) : FVec F S128x128 .f32 :=
  masked w 4#32 (extractStridedSlice S128x128 ![256, 0] s slices_S512x256_o256_0_S128x128) (kc2 kc)
def x30 (s : FVec F S512x256 .f32) (kc : FVec F S512x128 .f32) (w : IVec S128x128 32) : FVec F S128x128 .f32 :=
  masked w 4096#32 (extractStridedSlice S128x128 ![0, 128] s slices_S512x256_o0_128_S128x128) (kc0 kc)
def x31 (s : FVec F S512x256 .f32) (kc : FVec F S512x128 .f32) (w : IVec S128x128 32) : FVec F S128x128 .f32 :=
  masked w 512#32 (extractStridedSlice S128x128 ![128, 128] s slices_S512x256_o128_128_S128x128) (kc1 kc)
def x32 (s : FVec F S512x256 .f32) (kc : FVec F S512x128 .f32) (w : IVec S128x128 32) : FVec F S128x128 .f32 :=
  masked w 64#32 (extractStridedSlice S128x128 ![256, 128] s slices_S512x256_o256_128_S128x128) (kc2 kc)
def x33 (s : FVec F S512x256 .f32) (kc : FVec F S512x128 .f32) (w : IVec S128x128 32) : FVec F S128x128 .f32 :=
  masked w 8#32 (extractStridedSlice S128x128 ![384, 128] s slices_S512x256_o384_128_S128x128) (kc3 kc)

/-- The output of the first 256 queries, from their blocks of scores and the values. -/
def outA (v : FVec F S160x512 .bf16) (a00 a10 a11 : FVec F S128x128 .f32) : FVec F S160x256 .bf16 :=
  truncf .bf16
    (mulf
      (matmul dot_S160x256_S256x256_S160x256_1_0_0_1_n_n none
        (extractStridedSlice S160x256 ![0, 0] v slices_S160x512_o0_0_S160x256)
        (concatenate S256x256 1 [⟨S256x128, p0 a00⟩, ⟨S256x128, p1 a10 a11⟩] concatenates_S256x128_S256x128_S256x256_d1)
        (constant S160x256 .f32 0x00000000#32))
      (broadcastTo S160x256
        (concatenate S1x256 1 [⟨S1x128, l0 a00⟩, ⟨S1x128, l1 a10 a11⟩] concatenates_S1x128_S1x128_S1x256_d1)
        broadcasts_S1x256_S160x256))
    bitsLt_bf16_f32

/-- The output of the last 256 queries, from their blocks of scores and the values. -/
def outB (v : FVec F S160x512 .bf16) (a20 a21 a22 a30 a31 a32 a33 : FVec F S128x128 .f32) : FVec F S160x256 .bf16 :=
  truncf .bf16
    (mulf
      (matmul dot_S160x512_S512x256_S160x256_1_0_0_1_n_n none v
        (concatenate S512x256 1 [⟨S512x128, p2 a20 a21 a22⟩, ⟨S512x128, p3 a30 a31 a32 a33⟩]
          concatenates_S512x128_S512x128_S512x256_d1)
        (constant S160x256 .f32 0x00000000#32))
      (broadcastTo S160x256
        (concatenate S1x256 1 [⟨S1x128, l2 a20 a21 a22⟩, ⟨S1x128, l3 a30 a31 a32 a33⟩]
          concatenates_S1x128_S1x128_S1x256_d1)
        broadcasts_S1x256_S160x256))
    bitsLt_bf16_f32

/-- One head's output, features by queries. -/
def headOut (k : FVec F S512x160 .bf16) (kc : FVec F S512x128 .f32) (v q : FVec F S160x512 .bf16) (w : IVec S128x128 32) :
    FVec F S160x512 .bf16 :=
  concatenate S160x512 1
    [⟨S160x256, outA v (x00 (scoreA k q) kc w) (x10 (scoreA k q) kc w) (x11 (scoreA k q) kc w)⟩,
     ⟨S160x256, outB v (x20 (scoreB k q) kc w) (x21 (scoreB k q) kc w) (x22 (scoreB k q) kc w)
        (x30 (scoreB k q) kc w) (x31 (scoreB k q) kc w) (x32 (scoreB k q) kc w) (x33 (scoreB k q) kc w)⟩]
    concatenates_S160x256_S160x256_S160x512_d1

/-- Four heads' outputs as the kernel stores them: queries by features, head after head. -/
def store4 (h0 h1 h2 h3 : FVec F S160x512 .bf16) : FVec F S1x512x640 .bf16 :=
  shapeCast S1x512x640
    (transpose S512x640 [1, 0]
      (concatenate S640x512 0 [⟨S160x512, h0⟩, ⟨S160x512, h1⟩, ⟨S160x512, h2⟩, ⟨S160x512, h3⟩]
        concatenates_S160x512_S160x512_S160x512_S160x512_S640x512_d0)
      transposes_S640x512_p1_0_S512x640)
    shapeCasts_S512x640_S1x512x640

end Cert.KernelIdeal.Head

end
-- ==== Proof.HeadAt.lean ====
/-
  One head's output read at an index, over the extended reals.

  A query's masked scores over the 512 keys are a column `X`, and `attend X v` is the softmax of base 2 of that column
  applied to the values `v`: the unnormalised sum times one over the sum of the weights. The kernel takes the maximum
  and the sum of a column block by block and, within a block, in 16 groups of 8; the lemmas here put these back
  together, and `outA_lo` … `outB_hi` say that each quarter of the queries holds `attend` of its own column. Keys a
  query block does not reach count as masked: their score is `⊥`, so their weight is zero.
-/
module

public import proofs.«01_k».proof.Proof.Head
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe Idealize.SL.Sem

/-! ## A column of scores -/

/-- The weight of key `k` in a column of scores, before the division by the sum. -/
def weight (X : Fin 512 → EReal) (k : Fin 512) : EReal := Ideal.exp2 (X k - Finset.univ.sup X)

/-- The softmax of base 2 of the scores `X`, applied to the values `v`. -/
def attend (X v : Fin 512 → EReal) : EReal := (∑ k, v k * weight X k) * Ideal.div 1 (∑ k, weight X k)

theorem weight_bot (X : Fin 512 → EReal) (k : Fin 512) (h : X k = ⊥) : weight X k = 0 := by
  simp [weight, h]

/-- Key `r` of key block `j`. -/
abbrev at0 (r : Fin 128) : Fin 512 := ⟨r, by omega⟩
abbrev at1 (r : Fin 128) : Fin 512 := ⟨128 + r, by omega⟩
abbrev at2 (r : Fin 128) : Fin 512 := ⟨256 + r, by omega⟩
abbrev at3 (r : Fin 128) : Fin 512 := ⟨384 + r, by omega⟩

theorem forall_blocks {P : Fin 512 → Prop} (h0 : ∀ r, P (at0 r)) (h1 : ∀ r, P (at1 r)) (h2 : ∀ r, P (at2 r))
    (h3 : ∀ r, P (at3 r)) (k : Fin 512) : P k := by
  obtain ⟨k, hk⟩ := k
  by_cases a : k < 128
  · exact h0 ⟨k, a⟩
  by_cases b : k < 256
  · have := h1 ⟨k - 128, by omega⟩
    simpa [at1, show 128 + (k - 128) = k by omega] using this
  by_cases c : k < 384
  · have := h2 ⟨k - 256, by omega⟩
    simpa [at2, show 256 + (k - 256) = k by omega] using this
  · have := h3 ⟨k - 384, by omega⟩
    simpa [at3, show 384 + (k - 384) = k by omega] using this

theorem sup_blocks (X : Fin 512 → EReal) :
    Finset.univ.sup X = Finset.univ.sup (fun r => X (at0 r)) ⊔ Finset.univ.sup (fun r => X (at1 r))
      ⊔ Finset.univ.sup (fun r => X (at2 r)) ⊔ Finset.univ.sup (fun r => X (at3 r)) := by
  have le (f : Fin 128 → Fin 512) : Finset.univ.sup (fun r => X (f r)) ≤ Finset.univ.sup X :=
    Finset.sup_le fun r _ => Finset.le_sup (f := X) (Finset.mem_univ (f r))
  have ge (f : Fin 128 → Fin 512) (r : Fin 128) : X (f r) ≤ Finset.univ.sup (fun r => X (f r)) :=
    Finset.le_sup (f := fun r => X (f r)) (Finset.mem_univ r)
  refine le_antisymm (Finset.sup_le fun k _ => ?_) (sup_le (sup_le (sup_le (le _) (le _)) (le _)) (le _))
  refine forall_blocks (P := fun k => X k ≤ _) (fun r => ?_) (fun r => ?_) (fun r => ?_) (fun r => ?_) k
  · exact (ge at0 r).trans (le_sup_left.trans (le_sup_left.trans le_sup_left))
  · exact (ge at1 r).trans (le_sup_right.trans (le_sup_left.trans le_sup_left))
  · exact (ge at2 r).trans (le_sup_right.trans le_sup_left)
  · exact (ge at3 r).trans le_sup_right

theorem sum_blocks (f : Fin 512 → EReal) :
    ∑ k, f k = (∑ r, f (at0 r)) + (∑ r, f (at1 r)) + (∑ r, f (at2 r)) + ∑ r, f (at3 r) := by
  have h := Fin.sum_univ_add (a := 384) (b := 128) f
  have h' := Fin.sum_univ_add (a := 256) (b := 128) fun k => f (Fin.castAdd 128 k)
  have h'' := Fin.sum_univ_add (a := 128) (b := 128) fun k => f (Fin.castAdd 128 (Fin.castAdd 128 k))
  rw [h', h''] at h
  exact h

theorem sum_halves (f : Fin 512 → EReal) (h2 : ∀ r, f (at2 r) = 0) (h3 : ∀ r, f (at3 r) = 0) :
    ∑ k : Fin 256, f ⟨k, by omega⟩ = ∑ k, f k := by
  have h := Fin.sum_univ_add (a := 256) (b := 256) f
  have h' := Fin.sum_univ_add (a := 128) (b := 128) fun k : Fin 256 => f (Fin.natAdd 256 k)
  have e2 : ∑ r : Fin 128, f (Fin.natAdd 256 (Fin.castAdd 128 r)) = 0 :=
    Finset.sum_eq_zero fun r _ => h2 r
  have e3 : ∑ r : Fin 128, f (Fin.natAdd 256 (Fin.natAdd 128 r)) = 0 :=
    Finset.sum_eq_zero fun r _ =>
      (congrArg f (Fin.ext (by simp only [Fin.val_natAdd]; omega) : Fin.natAdd 256 (Fin.natAdd 128 r) = at3 r)).trans (h3 r)
  rw [h', e2, e3, add_zero, add_zero] at h
  exact h.symm

/-! ## The maximum -/

theorem fold_max (n : Nat) (f : Fin n → EReal) :
    Finset.univ.fold max (Ideal.ofBits .f32 0xFF800000#32) f = Finset.univ.sup f := by
  rw [show Ideal.ofBits .f32 0xFF800000#32 = ⊥ by simp [Ideal.ofBits, Ideal.ieee]]
  rfl

theorem max8_at (x : FVec Ideal S128x128 .f32) (a : Fin 8) (c : Fin 128) :
    max8 x (ix2 a c) = Finset.univ.sup fun g : Fin 16 => (x (ix2 ⟨g * 8 + a, by omega⟩ c) : EReal) := by
  pointwise [max8]
  exact fold_max 16 _

theorem colMax_at (x : FVec Ideal S8x128 .f32) (c : Fin 128) :
    colMax x (ix2 0 c) = Finset.univ.sup fun a : Fin 8 => (x (ix2 a c) : EReal) := by
  pointwise [colMax]
  exact fold_max 8 _

theorem colMax_max (x y : FVec Ideal S8x128 .f32) (c : Fin 128) :
    colMax (maximumf x y) (ix2 0 c) = (colMax x (ix2 0 c) : EReal) ⊔ colMax y (ix2 0 c) := by
  rw [colMax_at, colMax_at, colMax_at, ← Finset.sup_sup]
  rfl

theorem colMax_max8 (x : FVec Ideal S128x128 .f32) (c : Fin 128) :
    colMax (max8 x) (ix2 0 c) = Finset.univ.sup fun r : Fin 128 => (x (ix2 r c) : EReal) := by
  rw [colMax_at]
  refine le_antisymm (Finset.sup_le fun a _ => ?_) (Finset.sup_le fun r _ => ?_)
  · rw [max8_at]
    exact Finset.sup_le fun g _ =>
      Finset.le_sup (f := fun r : Fin 128 => (x (ix2 r c) : EReal)) (Finset.mem_univ (⟨g * 8 + a, by omega⟩ : Fin 128))
  · have ha := Finset.le_sup (f := fun a : Fin 8 => (max8 x (ix2 a c) : EReal)) (Finset.mem_univ (⟨r % 8, by omega⟩ : Fin 8))
    refine le_trans ?_ ha
    have hg := Finset.le_sup (f := fun g : Fin 16 => (x (ix2 ⟨g * 8 + r % 8, by omega⟩ c) : EReal))
      (Finset.mem_univ (⟨r / 8, by omega⟩ : Fin 16))
    simp only [max8_at]
    refine le_trans (le_of_eq ?_) hg
    congr 2
    exact Fin.ext (by simp only; omega)

/-! ## The weights and their sum -/

theorem prob_at (x : FVec Ideal S128x128 .f32) (m : FVec Ideal S1x128 .f32) (r c : Fin 128) :
    prob x m (ix2 r c) = Ideal.exp2 ((x (ix2 r c) : EReal) - m (ix2 0 c)) := by
  pointwise [prob]
  rfl

theorem sum8_at (x : FVec Ideal S128x128 .f32) (a : Fin 8) (c : Fin 128) :
    sum8 x (ix2 a c) = ∑ g : Fin 16, (x (ix2 ⟨g * 8 + a, by omega⟩ c) : EReal) := by
  pointwise [sum8]

theorem sum_sum8 (x : FVec Ideal S128x128 .f32) (c : Fin 128) :
    ∑ a : Fin 8, (sum8 x (ix2 a c) : EReal) = ∑ r : Fin 128, (x (ix2 r c) : EReal) := by
  simp only [sum8_at]
  rw [Finset.sum_comm,
    ← Fintype.sum_prod_type' fun (g : Fin 16) (a : Fin 8) => (x (ix2 ⟨g * 8 + a, by omega⟩ c) : EReal)]
  refine Fintype.sum_equiv (finProdFinEquiv (m := 16) (n := 8)) _ (fun r : Fin 128 => (x (ix2 r c) : EReal)) fun ga => ?_
  congr 2
  exact Fin.ext (by simp only [finProdFinEquiv_apply_val]; omega)

theorem invSum_at (x : FVec Ideal S8x128 .f32) (c : Fin 128) :
    invSum x (ix2 0 c) = Ideal.div 1 (∑ a : Fin 8, (x (ix2 a c) : EReal)) := by
  pointwise [invSum]

theorem sum_addf (x y : FVec Ideal S8x128 .f32) (c : Fin 128) :
    ∑ a : Fin 8, (addf x y (ix2 a c) : EReal) = (∑ a : Fin 8, (x (ix2 a c) : EReal)) + ∑ a : Fin 8, (y (ix2 a c) : EReal) := by
  rw [← Finset.sum_add_distrib]
  rfl

theorem sum_zero8 (c : Fin 128) : ∑ a : Fin 8, (zero8 (F := Ideal) (ix2 a c) : EReal) = 0 :=
  Finset.sum_eq_zero fun a _ => by pointwise [zero8]

/-! ## The maximum, sum and weights of each query block -/

section
variable {X : Fin 512 → EReal} {c : Fin 128} {x0 x1 x2 x3 : FVec Ideal S128x128 .f32}

theorem sup_bot (f : Fin 128 → Fin 512) (h : ∀ r, X (f r) = ⊥) : Finset.univ.sup (fun r => X (f r)) = ⊥ :=
  (Finset.sup_eq_bot_iff _ _).2 fun r _ => h r

theorem m0_at (h0 : ∀ r, (x0 (ix2 r c) : EReal) = X (at0 r)) (h1 : ∀ r, X (at1 r) = ⊥) (h2 : ∀ r, X (at2 r) = ⊥)
    (h3 : ∀ r, X (at3 r) = ⊥) : (m0 x0 (ix2 0 c) : EReal) = Finset.univ.sup X := by
  rw [sup_blocks, sup_bot at1 h1, sup_bot at2 h2, sup_bot at3 h3, m0, colMax_max8]
  simp only [h0, sup_bot_eq]

theorem m1_at (h0 : ∀ r, (x0 (ix2 r c) : EReal) = X (at0 r)) (h1 : ∀ r, (x1 (ix2 r c) : EReal) = X (at1 r))
    (h2 : ∀ r, X (at2 r) = ⊥) (h3 : ∀ r, X (at3 r) = ⊥) : (m1 x0 x1 (ix2 0 c) : EReal) = Finset.univ.sup X := by
  rw [sup_blocks, sup_bot at2 h2, sup_bot at3 h3, m1, colMax_max, colMax_max8, colMax_max8]
  simp only [h0, h1, sup_bot_eq]

theorem m2_at (h0 : ∀ r, (x0 (ix2 r c) : EReal) = X (at0 r)) (h1 : ∀ r, (x1 (ix2 r c) : EReal) = X (at1 r))
    (h2 : ∀ r, (x2 (ix2 r c) : EReal) = X (at2 r)) (h3 : ∀ r, X (at3 r) = ⊥) :
    (m2 x0 x1 x2 (ix2 0 c) : EReal) = Finset.univ.sup X := by
  rw [sup_blocks, sup_bot at3 h3, m2, colMax_max, colMax_max, colMax_max8, colMax_max8, colMax_max8]
  simp only [h0, h1, h2, sup_bot_eq]

theorem m3_at (h0 : ∀ r, (x0 (ix2 r c) : EReal) = X (at0 r)) (h1 : ∀ r, (x1 (ix2 r c) : EReal) = X (at1 r))
    (h2 : ∀ r, (x2 (ix2 r c) : EReal) = X (at2 r)) (h3 : ∀ r, (x3 (ix2 r c) : EReal) = X (at3 r)) :
    (m3 x0 x1 x2 x3 (ix2 0 c) : EReal) = Finset.univ.sup X := by
  rw [sup_blocks, m3, colMax_max, colMax_max, colMax_max, colMax_max8, colMax_max8, colMax_max8, colMax_max8]
  simp only [h0, h1, h2, h3]

/-- A block of weights, given the column's maximum. -/
theorem prob_weight {x : FVec Ideal S128x128 .f32} {m : FVec Ideal S1x128 .f32} {f : Fin 128 → Fin 512}
    (h : ∀ r, (x (ix2 r c) : EReal) = X (f r)) (hm : (m (ix2 0 c) : EReal) = Finset.univ.sup X) (r : Fin 128) :
    (prob x m (ix2 r c) : EReal) = weight X (f r) := by
  rw [prob_at, h, hm]
  rfl

theorem sum_weight {x : FVec Ideal S128x128 .f32} {m : FVec Ideal S1x128 .f32} {f : Fin 128 → Fin 512}
    (h : ∀ r, (x (ix2 r c) : EReal) = X (f r)) (hm : (m (ix2 0 c) : EReal) = Finset.univ.sup X) :
    ∑ a : Fin 8, (sum8 (prob x m) (ix2 a c) : EReal) = ∑ r, weight X (f r) :=
  (sum_sum8 _ c).trans (Finset.sum_congr rfl fun r _ => prob_weight h hm r)

theorem sum_none (f : Fin 128 → Fin 512) (h : ∀ r, X (f r) = ⊥) : ∑ r, weight X (f r) = 0 :=
  Finset.sum_eq_zero fun r _ => weight_bot X _ (h r)

theorem l0_at (h0 : ∀ r, (x0 (ix2 r c) : EReal) = X (at0 r)) (h1 : ∀ r, X (at1 r) = ⊥) (h2 : ∀ r, X (at2 r) = ⊥)
    (h3 : ∀ r, X (at3 r) = ⊥) : (l0 x0 (ix2 0 c) : EReal) = Ideal.div 1 (∑ k, weight X k) := by
  have hm := m0_at h0 h1 h2 h3
  rw [l0, invSum_at, sum_addf, sum_zero8, sum_weight h0 hm, sum_blocks, sum_none at1 h1, sum_none at2 h2, sum_none at3 h3]
  simp only [zero_add, add_zero]

theorem l1_at (h0 : ∀ r, (x0 (ix2 r c) : EReal) = X (at0 r)) (h1 : ∀ r, (x1 (ix2 r c) : EReal) = X (at1 r))
    (h2 : ∀ r, X (at2 r) = ⊥) (h3 : ∀ r, X (at3 r) = ⊥) :
    (l1 x0 x1 (ix2 0 c) : EReal) = Ideal.div 1 (∑ k, weight X k) := by
  have hm := m1_at h0 h1 h2 h3
  rw [l1, invSum_at, sum_addf, sum_addf, sum_zero8, sum_weight h0 hm, sum_weight h1 hm, sum_blocks, sum_none at2 h2,
    sum_none at3 h3]
  simp only [zero_add, add_zero]

theorem l2_at (h0 : ∀ r, (x0 (ix2 r c) : EReal) = X (at0 r)) (h1 : ∀ r, (x1 (ix2 r c) : EReal) = X (at1 r))
    (h2 : ∀ r, (x2 (ix2 r c) : EReal) = X (at2 r)) (h3 : ∀ r, X (at3 r) = ⊥) :
    (l2 x0 x1 x2 (ix2 0 c) : EReal) = Ideal.div 1 (∑ k, weight X k) := by
  have hm := m2_at h0 h1 h2 h3
  rw [l2, invSum_at, sum_addf, sum_addf, sum_addf, sum_zero8, sum_weight h0 hm, sum_weight h1 hm, sum_weight h2 hm,
    sum_blocks, sum_none at3 h3]
  simp only [zero_add, add_zero]

theorem l3_at (h0 : ∀ r, (x0 (ix2 r c) : EReal) = X (at0 r)) (h1 : ∀ r, (x1 (ix2 r c) : EReal) = X (at1 r))
    (h2 : ∀ r, (x2 (ix2 r c) : EReal) = X (at2 r)) (h3 : ∀ r, (x3 (ix2 r c) : EReal) = X (at3 r)) :
    (l3 x0 x1 x2 x3 (ix2 0 c) : EReal) = Ideal.div 1 (∑ k, weight X k) := by
  have hm := m3_at h0 h1 h2 h3
  rw [l3, invSum_at, sum_addf, sum_addf, sum_addf, sum_addf, sum_zero8, sum_weight h0 hm, sum_weight h1 hm,
    sum_weight h2 hm, sum_weight h3 hm, sum_blocks]
  simp only [zero_add]

theorem p0_at (h0 : ∀ r, (x0 (ix2 r c) : EReal) = X (at0 r)) (h1 : ∀ r, X (at1 r) = ⊥) (h2 : ∀ r, X (at2 r) = ⊥)
    (h3 : ∀ r, X (at3 r) = ⊥) (k : Fin 256) : (p0 x0 (ix2 k c) : EReal) = weight X ⟨k, by omega⟩ := by
  have hm := m0_at h0 h1 h2 h3
  pointwise [p0, toB, zeroBlk]
  split
  · exact prob_weight h0 hm _
  · rename_i h
    refine (weight_bot X _ ?_).symm
    have := h1 ⟨k - 128, by omega⟩
    simpa [at1, show 128 + (k.val - 128) = k by omega] using this

theorem p1_at (h0 : ∀ r, (x0 (ix2 r c) : EReal) = X (at0 r)) (h1 : ∀ r, (x1 (ix2 r c) : EReal) = X (at1 r))
    (h2 : ∀ r, X (at2 r) = ⊥) (h3 : ∀ r, X (at3 r) = ⊥) (k : Fin 256) :
    (p1 x0 x1 (ix2 k c) : EReal) = weight X ⟨k, by omega⟩ := by
  have hm := m1_at h0 h1 h2 h3
  pointwise [p1, toB, zeroBlk]
  split
  · exact prob_weight h0 hm _
  · refine (prob_weight h1 hm _).trans (congrArg (weight X) (Fin.ext ?_))
    simp only [at1]; omega

theorem p2_at (h0 : ∀ r, (x0 (ix2 r c) : EReal) = X (at0 r)) (h1 : ∀ r, (x1 (ix2 r c) : EReal) = X (at1 r))
    (h2 : ∀ r, (x2 (ix2 r c) : EReal) = X (at2 r)) (h3 : ∀ r, X (at3 r) = ⊥) (k : Fin 512) :
    (p2 x0 x1 x2 (ix2 k c) : EReal) = weight X k := by
  have hm := m2_at h0 h1 h2 h3
  pointwise [p2, toB, zeroBlk]
  split
  · exact prob_weight h0 hm _
  split
  · refine (prob_weight h1 hm _).trans (congrArg (weight X) (Fin.ext ?_))
    simp only [at1]; omega
  split
  · refine (prob_weight h2 hm _).trans (congrArg (weight X) (Fin.ext ?_))
    simp only [at2]; omega
  · refine (weight_bot X _ ?_).symm
    have := h3 ⟨k - 384, by omega⟩
    simpa [at3, show 384 + (k.val - 384) = k by omega] using this

theorem p3_at (h0 : ∀ r, (x0 (ix2 r c) : EReal) = X (at0 r)) (h1 : ∀ r, (x1 (ix2 r c) : EReal) = X (at1 r))
    (h2 : ∀ r, (x2 (ix2 r c) : EReal) = X (at2 r)) (h3 : ∀ r, (x3 (ix2 r c) : EReal) = X (at3 r)) (k : Fin 512) :
    (p3 x0 x1 x2 x3 (ix2 k c) : EReal) = weight X k := by
  have hm := m3_at h0 h1 h2 h3
  pointwise [p3, toB, zeroBlk]
  split
  · exact prob_weight h0 hm _
  split
  · refine (prob_weight h1 hm _).trans (congrArg (weight X) (Fin.ext ?_))
    simp only [at1]; omega
  split
  · refine (prob_weight h2 hm _).trans (congrArg (weight X) (Fin.ext ?_))
    simp only [at2]; omega
  · refine (prob_weight h3 hm _).trans (congrArg (weight X) (Fin.ext ?_))
    simp only [at3]; omega

/-! ## The output of each quarter of the queries -/

variable (v : FVec Ideal S160x512 .bf16) (d : Fin 160)

theorem outA_lo (y0 y1 : FVec Ideal S128x128 .f32) (h0 : ∀ r, (x0 (ix2 r c) : EReal) = X (at0 r)) (h1 : ∀ r, X (at1 r) = ⊥)
    (h2 : ∀ r, X (at2 r) = ⊥) (h3 : ∀ r, X (at3 r) = ⊥) :
    (outA v x0 y0 y1 (ix2 d ⟨c, by omega⟩) : EReal) = attend X fun k => v (ix2 d k) := by
  pointwise [outA]
  rw [l0_at h0 h1 h2 h3, attend]
  congr 1
  rw [← sum_halves _ (fun r => by rw [weight_bot X _ (h2 r), mul_zero]) (fun r => by rw [weight_bot X _ (h3 r), mul_zero])]
  exact Finset.sum_congr rfl fun k _ => by rw [p0_at h0 h1 h2 h3]

theorem outA_hi (y : FVec Ideal S128x128 .f32) (h0 : ∀ r, (x0 (ix2 r c) : EReal) = X (at0 r))
    (h1 : ∀ r, (x1 (ix2 r c) : EReal) = X (at1 r)) (h2 : ∀ r, X (at2 r) = ⊥) (h3 : ∀ r, X (at3 r) = ⊥) :
    (outA v y x0 x1 (ix2 d ⟨128 + c, by omega⟩) : EReal) = attend X fun k => v (ix2 d k) := by
  pointwise [outA]
  rw [l1_at h0 h1 h2 h3, attend]
  congr 1
  rw [← sum_halves _ (fun r => by rw [weight_bot X _ (h2 r), mul_zero]) (fun r => by rw [weight_bot X _ (h3 r), mul_zero])]
  exact Finset.sum_congr rfl fun k _ => by rw [p1_at h0 h1 h2 h3]

theorem outB_lo (y0 y1 y2 y3 : FVec Ideal S128x128 .f32) (h0 : ∀ r, (x0 (ix2 r c) : EReal) = X (at0 r))
    (h1 : ∀ r, (x1 (ix2 r c) : EReal) = X (at1 r)) (h2 : ∀ r, (x2 (ix2 r c) : EReal) = X (at2 r))
    (h3 : ∀ r, X (at3 r) = ⊥) :
    (outB v x0 x1 x2 y0 y1 y2 y3 (ix2 d ⟨c, by omega⟩) : EReal) = attend X fun k => v (ix2 d k) := by
  pointwise [outB]
  rw [l2_at h0 h1 h2 h3, attend]
  congr 1
  exact Finset.sum_congr rfl fun k _ => by rw [p2_at h0 h1 h2 h3]

theorem outB_hi (y0 y1 y2 : FVec Ideal S128x128 .f32) (h0 : ∀ r, (x0 (ix2 r c) : EReal) = X (at0 r))
    (h1 : ∀ r, (x1 (ix2 r c) : EReal) = X (at1 r)) (h2 : ∀ r, (x2 (ix2 r c) : EReal) = X (at2 r))
    (h3 : ∀ r, (x3 (ix2 r c) : EReal) = X (at3 r)) :
    (outB v y0 y1 y2 x0 x1 x2 x3 (ix2 d ⟨128 + c, by omega⟩) : EReal) = attend X fun k => v (ix2 d k) := by
  pointwise [outB]
  rw [l3_at h0 h1 h2 h3, attend]
  congr 1
  exact Finset.sum_congr rfl fun k _ => by rw [p3_at h0 h1 h2 h3]

end

end Cert.KernelIdeal.Head

end
-- ==== Proof.MaskAt.lean ====
/-
  The mask word read at an index: each of its bits says whether a query sees a key.

  `Sees vs ss qp kp` is the mask in plain words: the key is not after the query, and either the key's position is in
  the list `vs` or the distance from key to query is in the list `ss`. The kernel finds membership by counting (a product
  of two one-hot tables, at most one entry of each list index per position), packs four rows of 128 positions into the
  bits of one word per lane, and shifts the word by four bits below the diagonal of a block.
-/
module

public import proofs.«01_k».proof.Proof.Head
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe Idealize.SL.Sem

/-- Query position `qp` sees key position `kp`, given the vertical positions `vs` and the slash offsets `ss`. -/
def Sees (vs : Fin 96 → BitVec 32) (ss : Fin 224 → BitVec 32) (qp kp : Nat) : Prop :=
  kp ≤ qp ∧ ((∃ n, vs n = BitVec.ofNat 32 kp) ∨ ∃ n, ss n = BitVec.ofNat 32 (qp - kp))

/-! ## Membership by counting -/

/-- A sum of zeros and ones exceeds one half exactly when one of them is a one. -/
theorem half_lt_count {n : Nat} (P : Fin n → Prop) [DecidablePred P] :
    Ideal.ofBits .f32 0x3F000000#32 < ∑ x, (if P x then (1 : EReal) else 0) ↔ ∃ x, P x := by
  have half : Ideal.ofBits .f32 0x3F000000#32 = ((1 / 2 : ℝ) : EReal) := by
    simp [Ideal.ofBits, Ideal.ieee, -EReal.coe_mul]
    norm_num
  rw [half]
  constructor
  · intro h
    by_contra hn
    rw [Finset.sum_eq_zero fun x _ => if_neg fun hx => hn ⟨x, hx⟩] at h
    exact absurd h (not_lt.2 (EReal.coe_nonneg.2 (by norm_num)))
  · rintro ⟨x, hx⟩
    have h1 : (1 : EReal) ≤ ∑ x, (if P x then (1 : EReal) else 0) := by
      refine le_trans (le_of_eq (if_pos hx).symm)
        (Finset.single_le_sum (f := fun x => if P x then (1 : EReal) else 0) (fun y _ => ?_) (Finset.mem_univ x))
      show 0 ≤ if P y then (1 : EReal) else 0
      split
      · exact zero_le_one
      · exact le_rfl
    refine lt_of_lt_of_le ?_ h1
    exact EReal.coe_lt_coe_iff.2 (by norm_num : (1 / 2 : ℝ) < 1)

/-- The high and low parts of a word name it. -/
theorem hi_lo (w : BitVec 32) (r : Fin 8) (c : Fin 128) :
    IntOp.cmpi .eq (IntOp.andi w 127#32) (BitVec.ofNat 32 c) = 1#1 ∧
      IntOp.cmpi .eq (IntOp.shrui .vector w 7#32) (BitVec.ofNat 32 r) = 1#1 ↔ w = BitVec.ofNat 32 (128 * r + c) := by
  have e1 : IntOp.cmpi .eq (IntOp.andi w 127#32) (BitVec.ofNat 32 c) = 1#1 ↔ w.toNat % 128 = c := by
    simp only [IntOp.cmpi, IntOp.andi]
    rw [show ∀ b : Bool, BitVec.ofBool b = 1#1 ↔ b = true by decide, beq_iff_eq, ← BitVec.toNat_inj, BitVec.toNat_and,
      show (127#32).toNat = 2 ^ 7 - 1 from rfl, Nat.and_two_pow_sub_one_eq_mod, BitVec.toNat_ofNat,
      Nat.mod_eq_of_lt (a := c.val) (by omega)]
  have e2 : IntOp.cmpi .eq (IntOp.shrui .vector w 7#32) (BitVec.ofNat 32 r) = 1#1 ↔ w.toNat / 128 = r := by
    simp only [IntOp.cmpi, IntOp.shrui]
    rw [if_pos (by decide), show ∀ b : Bool, BitVec.ofBool b = 1#1 ↔ b = true by decide, beq_iff_eq, ← BitVec.toNat_inj,
      BitVec.ushiftRight_eq', BitVec.toNat_ushiftRight, show (7#32).toNat = 7 from rfl, Nat.shiftRight_eq_div_pow,
      BitVec.toNat_ofNat, Nat.mod_eq_of_lt (a := r.val) (by omega)]
  have e3 : (128 * r.val + c.val) % 2 ^ 32 = 128 * r.val + c.val := Nat.mod_eq_of_lt (by omega)
  rw [e1, e2, ← BitVec.toNat_inj, BitVec.toNat_ofNat, e3]
  omega

theorem count_term (w : BitVec 32) (r : Fin 8) (c : Fin 128) :
    (Scalar.select (IntOp.cmpi .eq (IntOp.andi w 127#32) (BitVec.ofNat 32 c))
      (Scalar.select (IntOp.cmpi .eq (IntOp.shrui .vector w 7#32) (BitVec.ofNat 32 r)) 1 0) 0 : EReal)
      = if w = BitVec.ofNat 32 (128 * r + c) then 1 else 0 := by
  simp only [Scalar.select, ← hi_lo, ite_and]
  rfl

theorem slash_at (idx : IVec S1x224 32) (r : Fin 8) (c : Fin 128) :
    slashMembers (F := Ideal) idx (ix2 r c) = 1#1 ↔ ∃ n, idx (ix2 0 n) = BitVec.ofNat 32 (128 * r + c) := by
  pointwise [slashMembers]
  rw [show ∀ b : Bool, BitVec.ofBool b = 1#1 ↔ b = true by decide, decide_eq_true_iff]
  simp only [count_term]
  exact half_lt_count fun n : Fin 224 => idx (ix2 0 n) = BitVec.ofNat 32 (128 * r + c)

theorem vert_at (idx : IVec S1x96 32) (r : Fin 8) (c : Fin 128) :
    vertMembers (F := Ideal) idx (ix2 r c) = 1#1 ↔ ∃ n, idx (ix2 0 n) = BitVec.ofNat 32 (128 * r + c) := by
  pointwise [vertMembers]
  rw [show ∀ b : Bool, BitVec.ofBool b = 1#1 ↔ b = true by decide, decide_eq_true_iff]
  simp only [count_term]
  exact half_lt_count fun n : Fin 96 => idx (ix2 0 n) = BitVec.ofNat 32 (128 * r + c)

/-! ## The packed bits -/

/-- A packed lane, from the four membership bits. -/
def lane (w0 w1 w2 w3 : BitVec 32) (b : Fin 4 → Bool) : BitVec 32 :=
  (((0#32 + (if b 0 then w0 else 0#32)) + (if b 1 then w1 else 0#32)) + (if b 2 then w2 else 0#32))
    + (if b 3 then w3 else 0#32)

theorem packed_at (w0 w1 w2 w3 : BitVec 32) (mem : IVec S8x128 1) (c : Fin 128) :
    packed w0 w1 w2 w3 mem (ix2 0 c) = lane w0 w1 w2 w3 fun d => decide (mem (ix2 ⟨d, by omega⟩ c) = 1#1) := by
  pointwise [packed]
  simp only [Scalar.select, lane, decide_eq_true_eq]
  rfl

/-- The bit of query block `i` and key block `j`. -/
abbrev bitOf (i j : Fin 4) : BitVec 32 := BitVec.ofNat 32 (1 <<< (4 * (i.val - j.val) + j.val))

/-- On and above the diagonal of a block, the bit of blocks `i`, `j` reads slash row `i - j` and vertical row `j`. -/
theorem bit_upper : ∀ (s v : Fin 4 → Bool) (i j : Fin 4), j ≤ i →
    ((lane 15#32 240#32 3840#32 61440#32 s ||| lane 4369#32 8738#32 17476#32 34952#32 v) &&& bitOf i j ≠ 0#32
      ↔ (v j = true ∨ s (i - j) = true)) := by
  have key : ∀ (s0 s1 s2 s3 v0 v1 v2 v3 : Bool) (i j : Fin 4), j ≤ i →
      ((lane 15#32 240#32 3840#32 61440#32 ![s0, s1, s2, s3] ||| lane 4369#32 8738#32 17476#32 34952#32 ![v0, v1, v2, v3])
        &&& bitOf i j ≠ 0#32 ↔ (![v0, v1, v2, v3] j = true ∨ ![s0, s1, s2, s3] (i - j) = true)) := by
    decide +kernel
  intro s v i j h
  have e (f : Fin 4 → Bool) : ![f 0, f 1, f 2, f 3] = f := by funext k; fin_cases k <;> rfl
  have := key (s 0) (s 1) (s 2) (s 3) (v 0) (v 1) (v 2) (v 3) i j h
  rwa [e, e] at this

/-- Below the diagonal of a block, the shifted bit reads slash row `i - j - 1`, and nothing for `i = j`. -/
theorem bit_lower : ∀ (s v : Fin 4 → Bool) (i j : Fin 4), j ≤ i →
    (((lane 15#32 240#32 3840#32 61440#32 s ||| lane 4369#32 8738#32 17476#32 34952#32 v) <<< 4#32) &&& bitOf i j ≠ 0#32
      ↔ j < i ∧ (v j = true ∨ s (i - j - 1) = true)) := by
  have key : ∀ (s0 s1 s2 s3 v0 v1 v2 v3 : Bool) (i j : Fin 4), j ≤ i →
      (((lane 15#32 240#32 3840#32 61440#32 ![s0, s1, s2, s3] ||| lane 4369#32 8738#32 17476#32 34952#32 ![v0, v1, v2, v3])
        <<< 4#32) &&& bitOf i j ≠ 0#32 ↔ j < i ∧ (![v0, v1, v2, v3] j = true ∨ ![s0, s1, s2, s3] (i - j - 1) = true)) := by
    decide +kernel
  intro s v i j h
  have e (f : Fin 4 → Bool) : ![f 0, f 1, f 2, f 3] = f := by funext k; fin_cases k <;> rfl
  have := key (s 0) (s 1) (s 2) (s 3) (v 0) (v 1) (v 2) (v 3) i j h
  rwa [e, e] at this

theorem sge_small (r c : Fin 128) :
    IntOp.cmpi .sge (BitVec.ofNat 32 c) (BitVec.ofNat 32 r) = 1 ↔ r ≤ c := by
  have t (k : Fin 128) : (BitVec.ofNat 32 k).toInt = (k : ℤ) := by
    rw [BitVec.toInt_eq_toNat_of_lt (by rw [BitVec.toNat_ofNat, Nat.mod_eq_of_lt (by omega)]; omega), BitVec.toNat_ofNat,
      Nat.mod_eq_of_lt (by omega)]
  simp only [IntOp.cmpi]
  rw [show ∀ b : Bool, BitVec.ofBool b = 1 ↔ b = true by decide, BitVec.sle_iff_toInt_le, t, t, Fin.le_def]
  omega

theorem word_at (s v : IVec S1x128 32) (r c : Fin 128) :
    wordOf s v (ix2 r c) = if r ≤ c then s (ix2 0 (c - r)) ||| v (ix2 0 r) else (s (ix2 0 (c - r)) ||| v (ix2 0 r)) <<< 4#32 := by
  have e : (c - r : Fin 128) = ⟨(c.val + 128 - r.val % 128) % 128, by omega⟩ := by
    apply Fin.ext
    simp only [Fin.sub_def]
    omega
  rw [e]
  pointwise [wordOf]
  simp only [Scalar.select, sge_small, IntOp.ori, IntOp.shli]
  rfl

/-- The bit of blocks `i` and `j` at (key `r`, query `c`) of the mask word: whether the query sees the key. -/
theorem mask_bit (vidx : Vec Ideal S1x1x96 .i32) (sidx : Vec Ideal S1x1x224 .i32) (i j : Fin 4) (h : j ≤ i) (r c : Fin 128) :
    maskWord vidx sidx (ix2 r c) &&& bitOf i j ≠ 0#32
      ↔ Sees (fun n => vidx (ix3 0 0 n)) (fun n => sidx (ix3 0 0 n)) (128 * i + c) (128 * j + r) := by
  have es (n : Fin 224) : shapeCast S1x224 sidx shapeCasts_S1x1x224_S1x224 (ix2 0 n) = sidx (ix3 0 0 n) := by pointwise
  have ev (n : Fin 96) : shapeCast S1x96 vidx shapeCasts_S1x1x96_S1x96 (ix2 0 n) = vidx (ix3 0 0 n) := by pointwise
  have hj : j.val ≤ i.val := h
  rw [maskWord, word_at, packed_at, packed_at]
  by_cases hrc : r ≤ c
  · have hd : (i - j : Fin 4).val = i.val - j.val := Fin.sub_val_of_le h
    have hl : (c - r : Fin 128).val = c.val - r.val := Fin.sub_val_of_le hrc
    have hrc' : r.val ≤ c.val := hrc
    rw [if_pos hrc, bit_upper _ _ i j h, decide_eq_true_iff, decide_eq_true_iff, slash_at, vert_at, Sees]
    simp only [es, ev, hd, hl]
    rw [show 128 * i.val + c.val - (128 * j.val + r.val) = 128 * (i.val - j.val) + (c.val - r.val) by omega]
    exact ⟨fun h => ⟨by omega, h⟩, fun h => h.2⟩
  · have hrc' : c.val < r.val := Nat.lt_of_not_le hrc
    have hl : (c - r : Fin 128).val = c.val + 128 - r.val := by
      simp only [Fin.sub_def]
      omega
    rw [if_neg hrc, bit_lower _ _ i j h, decide_eq_true_iff, decide_eq_true_iff, slash_at, vert_at, Sees]
    simp only [es, ev, hl]
    by_cases hij : j < i
    · have hij' : j.val < i.val := hij
      have hd : (i - j - 1 : Fin 4).val = i.val - j.val - 1 := by
        simp only [Fin.sub_def]
        omega
      simp only [hd]
      rw [show 128 * i.val + c.val - (128 * j.val + r.val) = 128 * (i.val - j.val - 1) + (c.val + 128 - r.val) by omega]
      exact ⟨fun h => ⟨by omega, h.2⟩, fun h => ⟨hij, h.2⟩⟩
    · have hij' : ¬ j.val < i.val := hij
      exact ⟨fun h => absurd h.1 hij, fun h => absurd h.1 (by omega)⟩

end Cert.KernelIdeal.Head

end
-- ==== Proof.HeadValue.lean ====
/-
  One head's output at (feature, query): the softmax of base 2 of the query's column of masked scores, applied to the
  feature's values.
-/
module

public import proofs.«01_k».proof.Proof.HeadAt
public import proofs.«01_k».proof.Proof.MaskAt

@[expose] public section

set_option maxRecDepth 16384

noncomputable section

namespace Cert.KernelIdeal.Head

open Cert.KernelIdeal Cert.KernelIdeal.Gen Idealize.ShloMosaic Idealize.ShloMosaic.TcCoe Idealize.SL.Sem

open Classical in
/-- Query `qp`'s masked scores: the product of key and query times the key's scale where the query sees the key, `⊥` elsewhere. -/
def column (sees : Nat → Nat → Prop) (k : FVec Ideal S512x160 .bf16) (q : FVec Ideal S160x512 .bf16) (kcol : Fin 512 → EReal)
    (qp kp : Fin 512) : EReal :=
  if sees qp kp then (∑ x : Fin 160, (k (ix2 kp x) : EReal) * q (ix2 x qp)) * kcol kp else ⊥

/-- The mask of a head's index lists. -/
abbrev seesOf (vidx : Vec Ideal S1x1x96 .i32) (sidx : Vec Ideal S1x1x224 .i32) : Nat → Nat → Prop :=
  Sees (fun n => vidx (ix3 0 0 n)) (fun n => sidx (ix3 0 0 n))

open Classical in
theorem masked_at (vidx : Vec Ideal S1x1x96 .i32) (sidx : Vec Ideal S1x1x224 .i32) (i j : Fin 4) (h : j ≤ i)
    (s kc : FVec Ideal S128x128 .f32) (r c : Fin 128) :
    (masked (maskWord vidx sidx) (bitOf i j) s kc (ix2 r c) : EReal)
      = if seesOf vidx sidx (128 * i + c) (128 * j + r) then (s (ix2 r c) : EReal) * kc (ix2 r c) else ⊥ := by
  have e : Named.named (F := Ideal) κ "mask" (φ := .f32) 0xF149F2CA#32 = (⊥ : EReal) :=
    IdealRules.named_const.ideal_named_scalar _ _ _ _ rfl
  have b : IntOp.cmpi .ne (IntOp.andi (maskWord vidx sidx (ix2 r c)) (bitOf i j)) 0#32 = 1
      ↔ seesOf vidx sidx (128 * i + c) (128 * j + r) := by
    refine Iff.trans ?_ (mask_bit vidx sidx i j h r c)
    simp only [IntOp.cmpi, IntOp.andi]
    rw [show ∀ b : Bool, BitVec.ofBool b = 1 ↔ b = true by decide, bne_iff_ne]
  pointwise [masked]
  rw [e]
  simp only [Scalar.select, b]

section
variable (vidx : Vec Ideal S1x1x96 .i32) (sidx : Vec Ideal S1x1x224 .i32) (k : FVec Ideal S512x160 .bf16)
  (q : FVec Ideal S160x512 .bf16) (kc : FVec Ideal S512x128 .f32) {kcol : Fin 512 → EReal}
  (hkc : ∀ (kp : Fin 512) (c : Fin 128), (kc (ix2 kp c) : EReal) = kcol kp) (r c : Fin 128)

theorem column_after {qp kp : Fin 512} (h : qp.val < kp.val) : column (seesOf vidx sidx) k q kcol qp kp = ⊥ :=
  if_neg fun hs => absurd hs.1 (by omega)

open Classical in
include hkc in
theorem x00_at : (x00 (scoreA k q) kc (maskWord vidx sidx) (ix2 r c) : EReal)
    = column (seesOf vidx sidx) k q kcol (at0 c) (at0 r) := by
  refine (masked_at vidx sidx 0 0 (by decide) _ _ r c).trans ?_
  rw [column]
  have e1 : (128 * (0 : Fin 4).val + c.val) = (at0 c).val := by simp [at0]
  have e2 : (128 * (0 : Fin 4).val + r.val) = (at0 r).val := by simp [at0]
  rw [e1, e2]
  refine if_congr Iff.rfl (congrArg₂ (· * ·) ?_ ?_) rfl
  · pointwise [scoreA]
  · rw [← hkc (at0 r) c]
    pointwise [kc0]

open Classical in
include hkc in
theorem x10_at : (x10 (scoreA k q) kc (maskWord vidx sidx) (ix2 r c) : EReal)
    = column (seesOf vidx sidx) k q kcol (at1 c) (at0 r) := by
  refine (masked_at vidx sidx 1 0 (by decide) _ _ r c).trans ?_
  rw [column]
  have e1 : (128 * (1 : Fin 4).val + c.val) = (at1 c).val := by simp [at1]
  have e2 : (128 * (0 : Fin 4).val + r.val) = (at0 r).val := by simp [at0]
  rw [e1, e2]
  refine if_congr Iff.rfl (congrArg₂ (· * ·) ?_ ?_) rfl
  · pointwise [scoreA]
  · rw [← hkc (at0 r) c]
    pointwise [kc0]

open Classical in
include hkc in
theorem x11_at : (x11 (scoreA k q) kc (maskWord vidx sidx) (ix2 r c) : EReal)
    = column (seesOf vidx sidx) k q kcol (at1 c) (at1 r) := by
  refine (masked_at vidx sidx 1 1 (by decide) _ _ r c).trans ?_
  rw [column]
  have e1 : (128 * (1 : Fin 4).val + c.val) = (at1 c).val := by simp [at1]
  have e2 : (128 * (1 : Fin 4).val + r.val) = (at1 r).val := by simp [at1]
  rw [e1, e2]
  refine if_congr Iff.rfl (congrArg₂ (· * ·) ?_ ?_) rfl
  · pointwise [scoreA]
  · rw [← hkc (at1 r) c]
    pointwise [kc1]

open Classical in
include hkc in
theorem x20_at : (x20 (scoreB k q) kc (maskWord vidx sidx) (ix2 r c) : EReal)
    = column (seesOf vidx sidx) k q kcol (at2 c) (at0 r) := by
  refine (masked_at vidx sidx 2 0 (by decide) _ _ r c).trans ?_
  rw [column]
  have e1 : (128 * (2 : Fin 4).val + c.val) = (at2 c).val := by simp [at2]
  have e2 : (128 * (0 : Fin 4).val + r.val) = (at0 r).val := by simp [at0]
  rw [e1, e2]
  refine if_congr Iff.rfl (congrArg₂ (· * ·) ?_ ?_) rfl
  · pointwise [scoreB]
  · rw [← hkc (at0 r) c]
    pointwise [kc0]

open Classical in
include hkc in
theorem x21_at : (x21 (scoreB k q) kc (maskWord vidx sidx) (ix2 r c) : EReal)
    = column (seesOf vidx sidx) k q kcol (at2 c) (at1 r) := by
  refine (masked_at vidx sidx 2 1 (by decide) _ _ r c).trans ?_
  rw [column]
  have e1 : (128 * (2 : Fin 4).val + c.val) = (at2 c).val := by simp [at2]
  have e2 : (128 * (1 : Fin 4).val + r.val) = (at1 r).val := by simp [at1]
  rw [e1, e2]
  refine if_congr Iff.rfl (congrArg₂ (· * ·) ?_ ?_) rfl
  · pointwise [scoreB]
  · rw [← hkc (at1 r) c]
    pointwise [kc1]

open Classical in
include hkc in
theorem x22_at : (x22 (scoreB k q) kc (maskWord vidx sidx) (ix2 r c) : EReal)
    = column (seesOf vidx sidx) k q kcol (at2 c) (at2 r) := by
  refine (masked_at vidx sidx 2 2 (by decide) _ _ r c).trans ?_
  rw [column]
  have e1 : (128 * (2 : Fin 4).val + c.val) = (at2 c).val := by simp [at2]
  have e2 : (128 * (2 : Fin 4).val + r.val) = (at2 r).val := by simp [at2]
  rw [e1, e2]
  refine if_congr Iff.rfl (congrArg₂ (· * ·) ?_ ?_) rfl
  · pointwise [scoreB]
  · rw [← hkc (at2 r) c]
    pointwise [kc2]

open Classical in
include hkc in
theorem x30_at : (x30 (scoreB k q) kc (maskWord vidx sidx) (ix2 r c) : EReal)
    = column (seesOf vidx sidx) k q kcol (at3 c) (at0 r) := by
  refine (masked_at vidx sidx 3 0 (by decide) _ _ r c).trans ?_
  rw [column]
  have e1 : (128 * (3 : Fin 4).val + c.val) = (at3 c).val := by simp [at3]
  have e2 : (128 * (0 : Fin 4).val + r.val) = (at0 r).val := by simp [at0]
  rw [e1, e2]
  refine if_congr Iff.rfl (congrArg₂ (· * ·) ?_ ?_) rfl
  · pointwise [scoreB]
    exact Finset.sum_congr rfl fun x _ => congrArg (fun z => (k (ix2 (at0 r) x) : EReal) * q (ix2 x z))
      (Fin.ext (by simp only [at3]; omega))
  · rw [← hkc (at0 r) c]
    pointwise [kc0]

open Classical in
include hkc in
theorem x31_at : (x31 (scoreB k q) kc (maskWord vidx sidx) (ix2 r c) : EReal)
    = column (seesOf vidx sidx) k q kcol (at3 c) (at1 r) := by
  refine (masked_at vidx sidx 3 1 (by decide) _ _ r c).trans ?_
  rw [column]
  have e1 : (128 * (3 : Fin 4).val + c.val) = (at3 c).val := by simp [at3]
  have e2 : (128 * (1 : Fin 4).val + r.val) = (at1 r).val := by simp [at1]
  rw [e1, e2]
  refine if_congr Iff.rfl (congrArg₂ (· * ·) ?_ ?_) rfl
  · pointwise [scoreB]
    exact Finset.sum_congr rfl fun x _ => congrArg (fun z => (k (ix2 (at1 r) x) : EReal) * q (ix2 x z))
      (Fin.ext (by simp only [at3]; omega))
  · rw [← hkc (at1 r) c]
    pointwise [kc1]

open Classical in
include hkc in
theorem x32_at : (x32 (scoreB k q) kc (maskWord vidx sidx) (ix2 r c) : EReal)
    = column (seesOf vidx sidx) k q kcol (at3 c) (at2 r) := by
  refine (masked_at vidx sidx 3 2 (by decide) _ _ r c).trans ?_
  rw [column]
  have e1 : (128 * (3 : Fin 4).val + c.val) = (at3 c).val := by simp [at3]
  have e2 : (128 * (2 : Fin 4).val + r.val) = (at2 r).val := by simp [at2]
  rw [e1, e2]
  refine if_congr Iff.rfl (congrArg₂ (· * ·) ?_ ?_) rfl
  · pointwise [scoreB]
    exact Finset.sum_congr rfl fun x _ => congrArg (fun z => (k (ix2 (at2 r) x) : EReal) * q (ix2 x z))
      (Fin.ext (by simp only [at3]; omega))
  · rw [← hkc (at2 r) c]
    pointwise [kc2]

open Classical in
include hkc in
theorem x33_at : (x33 (scoreB k q) kc (maskWord vidx sidx) (ix2 r c) : EReal)
    = column (seesOf vidx sidx) k q kcol (at3 c) (at3 r) := by
  refine (masked_at vidx sidx 3 3 (by decide) _ _ r c).trans ?_
  rw [column]
  have e1 : (128 * (3 : Fin 4).val + c.val) = (at3 c).val := by simp [at3]
  have e2 : (128 * (3 : Fin 4).val + r.val) = (at3 r).val := by simp [at3]
  rw [e1, e2]
  refine if_congr Iff.rfl (congrArg₂ (· * ·) ?_ ?_) rfl
  · pointwise [scoreB]
    exact Finset.sum_congr rfl fun x _ => congrArg (fun z => (k (ix2 (at3 r) x) : EReal) * q (ix2 x z))
      (Fin.ext (by simp only [at3]; omega))
  · rw [← hkc (at3 r) c]
    pointwise [kc3]

/-- One head's output at (feature, query). -/
theorem headOut_at (v : FVec Ideal S160x512 .bf16) (d : Fin 160) (qp : Fin 512)
    (hkc : ∀ (kp : Fin 512) (c : Fin 128), (kc (ix2 kp c) : EReal) = kcol kp) :
    (headOut k kc v q (maskWord vidx sidx) (ix2 d qp) : EReal)
      = attend (column (seesOf vidx sidx) k q kcol qp) fun kp => v (ix2 d kp) := by
  refine forall_blocks (P := fun qp => (headOut k kc v q (maskWord vidx sidx) (ix2 d qp) : EReal)
      = attend (column (seesOf vidx sidx) k q kcol qp) fun kp => v (ix2 d kp)) (fun c => ?_) (fun c => ?_) (fun c => ?_)
    (fun c => ?_) qp
  · refine Eq.trans (b := outA v (x00 (scoreA k q) kc (maskWord vidx sidx)) (x10 (scoreA k q) kc (maskWord vidx sidx))
      (x11 (scoreA k q) kc (maskWord vidx sidx)) (ix2 d ⟨c, by omega⟩)) (by pointwise [headOut]; exact dif_pos (by omega)) ?_
    exact outA_lo v d _ _ (fun r => x00_at vidx sidx k q kc hkc r c)
      (fun r => column_after vidx sidx k q (by simp only [at0, at1]; omega))
      (fun r => column_after vidx sidx k q (by simp only [at0, at2]; omega))
      (fun r => column_after vidx sidx k q (by simp only [at0, at3]; omega))
  · refine Eq.trans (b := outA v (x00 (scoreA k q) kc (maskWord vidx sidx)) (x10 (scoreA k q) kc (maskWord vidx sidx))
      (x11 (scoreA k q) kc (maskWord vidx sidx)) (ix2 d ⟨128 + c, by omega⟩)) (by pointwise [headOut]; exact dif_pos (by omega)) ?_
    exact outA_hi v d _ (fun r => x10_at vidx sidx k q kc hkc r c) (fun r => x11_at vidx sidx k q kc hkc r c)
      (fun r => column_after vidx sidx k q (by simp only [at1, at2]; omega))
      (fun r => column_after vidx sidx k q (by simp only [at1, at3]; omega))
  · refine Eq.trans (b := outB v (x20 (scoreB k q) kc (maskWord vidx sidx)) (x21 (scoreB k q) kc (maskWord vidx sidx))
      (x22 (scoreB k q) kc (maskWord vidx sidx)) (x30 (scoreB k q) kc (maskWord vidx sidx))
      (x31 (scoreB k q) kc (maskWord vidx sidx)) (x32 (scoreB k q) kc (maskWord vidx sidx))
      (x33 (scoreB k q) kc (maskWord vidx sidx)) (ix2 d ⟨c, by omega⟩)) (by pointwise [headOut]) ?_
    exact outB_lo v d _ _ _ _ (fun r => x20_at vidx sidx k q kc hkc r c) (fun r => x21_at vidx sidx k q kc hkc r c)
      (fun r => x22_at vidx sidx k q kc hkc r c)
      (fun r => column_after vidx sidx k q (by simp only [at2, at3]; omega))
  · refine Eq.trans (b := outB v (x20 (scoreB k q) kc (maskWord vidx sidx)) (x21 (scoreB k q) kc (maskWord vidx sidx))
      (x22 (scoreB k q) kc (maskWord vidx sidx)) (x30 (scoreB k q) kc (maskWord vidx sidx))
      (x31 (scoreB k q) kc (maskWord vidx sidx)) (x32 (scoreB k q) kc (maskWord vidx sidx))
      (x33 (scoreB k q) kc (maskWord vidx sidx)) (ix2 d ⟨128 + c, by omega⟩)) (by
        pointwise [headOut]
        rw [dif_neg (by omega)]
        congr 2
        exact Fin.ext (by simp only; omega)) ?_
    exact outB_hi v d _ _ _ (fun r => x30_at vidx sidx k q kc hkc r c) (fun r => x31_at vidx sidx k q kc hkc r c)
      (fun r => x32_at vidx sidx k q kc hkc r c) (fun r => x33_at vidx sidx k q kc hkc r c)

end

end Cert.KernelIdeal.Head

end
-- ==== Proof.Pieces.lean ====
/-
  What the kernel's body stores, in terms of one head's composition.
-/
module

public import proofs.«01_k».proof.Proof.Head

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F] [Named F]

variable (c : Dev nD) (i : grid0.Coords) (arg2 : Memref sig .tc .vmem S1x12x160x512 .bf16) (harg2 : arg2.IsWhole) (arg3 : Memref sig .tc .vmem S1x4x160x512 .fp8e4m3) (harg3 : arg3.IsWhole) (arg4 : Memref sig .tc .vmem S1x8x512 .f32) (harg4 : arg4.IsWhole) (arg5 : Memref sig .tc .vmem S1x4x160x512 .fp8e4m3) (harg5 : arg5.IsWhole) (arg6 : Memref sig .tc .vmem S1x8x512 .f32) (harg6 : arg6.IsWhole) (arg7 : Memref sig .tc .vmem S1x24x96 .i32) (harg7 : arg7.IsWhole) (arg8 : Memref sig .tc .vmem S1x24x224 .i32) (harg8 : arg8.IsWhole) (arg9 : Memref sig .tc .vmem S1x512x1920 .bf16) (harg9 : arg9.IsWhole)
    (x0 : Vec F S1x12x160x512 .bf16) (x1 : Vec F S1x4x160x512 .fp8e4m3) (x2 : Vec F S1x8x512 .f32) (x3 : Vec F S1x4x160x512 .fp8e4m3) (x4 : Vec F S1x8x512 .f32) (x5 : Vec F S1x24x96 .i32) (x6 : Vec F S1x24x224 .i32)

/-- The head's composition at the loads of query head `3 g + r` and key head `g` of the grid point's blocks. -/
def loadedHead (g : Fin 4) (r : Fin 3)
    (hq : ∀ a, (![0, 3 * g.val + r.val, 0, 0] : Fin 4 → ℕ) a + S1x1x160x512.size a ≤ S1x12x160x512.size a)
    (hk : ∀ a, (![0, g.val, 0, 0] : Fin 4 → ℕ) a + S1x1x160x512.size a ≤ S1x4x160x512.size a) : FVec F S160x512 .bf16 :=
  headOut
    (k0_pay2 (View.readAt (Elt F) arg3.view (Rect.unit (s := S1x4x160x512) ![0, g.val, 0, 0] S1x1x160x512.size hk).toLoadRect (harg3.unread x1)))
    (k0_pay3 (View.readAt (Elt F) arg4.view (Rect.unit (s := S1x8x512) (k0_off1 i (BitVec.ofNat 32 g.val)) S1x1x512.size (k0_off1_inb i g)).toLoadRect (harg4.unread x2)))
    (k0_pay4 (View.readAt (Elt F) arg5.view (Rect.unit (s := S1x4x160x512) ![0, g.val, 0, 0] S1x1x160x512.size hk).toLoadRect (harg5.unread x3))
      (View.readAt (Elt F) arg6.view (Rect.unit (s := S1x8x512) (k0_off1 i (BitVec.ofNat 32 g.val)) S1x1x512.size (k0_off1_inb i g)).toLoadRect (harg6.unread x4)))
    (k0_pay5 (View.readAt (Elt F) arg2.view (Rect.unit (s := S1x12x160x512) ![0, 3 * g.val + r.val, 0, 0] S1x1x160x512.size hq).toLoadRect (harg2.unread x0)))
    (maskWord
      (View.readAt (Elt F) arg7.view (Rect.unit (s := S1x24x96) (k0_off2 i (BitVec.ofNat 32 g.val) (BitVec.ofNat 32 r.val)) S1x1x96.size (k0_off2_inb i g r)).toLoadRect (harg7.unread x5))
      (View.readAt (Elt F) arg8.view (Rect.unit (s := S1x24x224) (k0_off3 i (BitVec.ofNat 32 g.val) (BitVec.ofNat 32 r.val)) S1x1x224.size (k0_off3_inb i g r)).toLoadRect (harg8.unread x6)))

theorem store_first : kernelRun0_A.sl.v1428 c i arg2 harg2 arg3 harg3 arg4 harg4 arg5 harg5 arg6 harg6 arg7 harg7 arg8 harg8 x0 x1 x2 x3 x4 x5 x6 =
  store4
    (loadedHead i arg2 harg2 arg3 harg3 arg4 harg4 arg5 harg5 arg6 harg6 arg7 harg7 arg8 harg8 x0 x1 x2 x3 x4 x5 x6 0 0 inb_S1x12x160x512_S1x1x160x512_0_0_0_0 inb_S1x4x160x512_S1x1x160x512_0_0_0_0)
    (loadedHead i arg2 harg2 arg3 harg3 arg4 harg4 arg5 harg5 arg6 harg6 arg7 harg7 arg8 harg8 x0 x1 x2 x3 x4 x5 x6 0 1 inb_S1x12x160x512_S1x1x160x512_0_1_0_0 inb_S1x4x160x512_S1x1x160x512_0_0_0_0)
    (loadedHead i arg2 harg2 arg3 harg3 arg4 harg4 arg5 harg5 arg6 harg6 arg7 harg7 arg8 harg8 x0 x1 x2 x3 x4 x5 x6 0 2 inb_S1x12x160x512_S1x1x160x512_0_2_0_0 inb_S1x4x160x512_S1x1x160x512_0_0_0_0)
    (loadedHead i arg2 harg2 arg3 harg3 arg4 harg4 arg5 harg5 arg6 harg6 arg7 harg7 arg8 harg8 x0 x1 x2 x3 x4 x5 x6 1 0 inb_S1x12x160x512_S1x1x160x512_0_3_0_0 inb_S1x4x160x512_S1x1x160x512_0_1_0_0) := rfl

theorem store_second : kernelRun0_A.sl.v2832 c i arg2 harg2 arg3 harg3 arg4 harg4 arg5 harg5 arg6 harg6 arg7 harg7 arg8 harg8 x0 x1 x2 x3 x4 x5 x6 =
  store4
    (loadedHead i arg2 harg2 arg3 harg3 arg4 harg4 arg5 harg5 arg6 harg6 arg7 harg7 arg8 harg8 x0 x1 x2 x3 x4 x5 x6 1 1 inb_S1x12x160x512_S1x1x160x512_0_4_0_0 inb_S1x4x160x512_S1x1x160x512_0_1_0_0)
    (loadedHead i arg2 harg2 arg3 harg3 arg4 harg4 arg5 harg5 arg6 harg6 arg7 harg7 arg8 harg8 x0 x1 x2 x3 x4 x5 x6 1 2 inb_S1x12x160x512_S1x1x160x512_0_5_0_0 inb_S1x4x160x512_S1x1x160x512_0_1_0_0)
    (loadedHead i arg2 harg2 arg3 harg3 arg4 harg4 arg5 harg5 arg6 harg6 arg7 harg7 arg8 harg8 x0 x1 x2 x3 x4 x5 x6 2 0 inb_S1x12x160x512_S1x1x160x512_0_6_0_0 inb_S1x4x160x512_S1x1x160x512_0_2_0_0)
    (loadedHead i arg2 harg2 arg3 harg3 arg4 harg4 arg5 harg5 arg6 harg6 arg7 harg7 arg8 harg8 x0 x1 x2 x3 x4 x5 x6 2 1 inb_S1x12x160x512_S1x1x160x512_0_7_0_0 inb_S1x4x160x512_S1x1x160x512_0_2_0_0) := rfl

theorem store_third : k0_pay1 (kernelRun0_A.sl.r_311 c i arg2 harg2 arg3 harg3 arg4 harg4 arg5 harg5 arg6 harg6 arg7 harg7 arg8 harg8 x0 x1 x2 x3 x4 x5 x6) =
  store4
    (loadedHead i arg2 harg2 arg3 harg3 arg4 harg4 arg5 harg5 arg6 harg6 arg7 harg7 arg8 harg8 x0 x1 x2 x3 x4 x5 x6 2 2 inb_S1x12x160x512_S1x1x160x512_0_8_0_0 inb_S1x4x160x512_S1x1x160x512_0_2_0_0)
    (loadedHead i arg2 harg2 arg3 harg3 arg4 harg4 arg5 harg5 arg6 harg6 arg7 harg7 arg8 harg8 x0 x1 x2 x3 x4 x5 x6 3 0 inb_S1x12x160x512_S1x1x160x512_0_9_0_0 inb_S1x4x160x512_S1x1x160x512_0_3_0_0)
    (loadedHead i arg2 harg2 arg3 harg3 arg4 harg4 arg5 harg5 arg6 harg6 arg7 harg7 arg8 harg8 x0 x1 x2 x3 x4 x5 x6 3 1 inb_S1x12x160x512_S1x1x160x512_0_10_0_0 inb_S1x4x160x512_S1x1x160x512_0_3_0_0)
    (loadedHead i arg2 harg2 arg3 harg3 arg4 harg4 arg5 harg5 arg6 harg6 arg7 harg7 arg8 harg8 x0 x1 x2 x3 x4 x5 x6 3 2 inb_S1x12x160x512_S1x1x160x512_0_11_0_0 inb_S1x4x160x512_S1x1x160x512_0_3_0_0) := rfl

end Cert.KernelIdeal.Head

end
-- ==== Proof.LoadedAt.lean ====
/-
  A head's output in terms of the blocks the kernel loads from.
-/
module

public import proofs.«01_k».proof.Proof.HeadValue
public import proofs.«01_k».proof.Proof.Pieces
public import Idealize.ShloMosaic.Lib.WholeRead
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe Idealize.SL.Sem

/-- The folded scale: one over the square root of the head size times the natural logarithm of two. -/
def scale2 : EReal := (((Real.sqrt 160)⁻¹ * (Real.log 2)⁻¹ : ℝ) : EReal)

open Classical in
/-- A head's output at a query, for one feature: `k` and `q` are the keys and queries (feature, position), `ks` and `vs`
the scales of keys and values, `v` the feature's values. -/
def headValue (sees : Nat → Nat → Prop) (k q : Fin 160 → Fin 512 → EReal) (ks v vs : Fin 512 → EReal) (qp : Fin 512) : EReal :=
  attend (fun kp => if sees qp kp then (∑ x, k x kp * q x qp) * (ks kp * scale2) else ⊥) fun kp => v kp * vs kp

theorem off1_eq : ∀ (i : grid0.Coords) (g : Fin 4), k0_off1 i (BitVec.ofNat 32 g.val) = ![0, 4 * (i 1).val + g.val, 0] := by
  decide +kernel

theorem off2_eq : ∀ (i : grid0.Coords) (g : Fin 4) (r : Fin 3),
    k0_off2 i (BitVec.ofNat 32 g.val) (BitVec.ofNat 32 r.val) = ![0, 12 * (i 1).val + (3 * g.val + r.val), 0] := by
  decide +kernel

theorem off3_eq : ∀ (i : grid0.Coords) (g : Fin 4) (r : Fin 3),
    k0_off3 i (BitVec.ofNat 32 g.val) (BitVec.ofNat 32 r.val) = ![0, 12 * (i 1).val + (3 * g.val + r.val), 0] := by
  decide +kernel

theorem half_lt (i : grid0.Coords) : (i 1).val < 2 := (i 1).isLt

theorem pay2_at (x : Vec Ideal S1x1x160x512 .fp8e4m3) (kp : Fin 512) (d : Fin 160) :
    (k0_pay2 x (ix2 kp d) : EReal) = x (ix4 0 0 d kp) := by
  pointwise [k0_pay2]

theorem pay3_at (x : Vec Ideal S1x1x512 .f32) (kp : Fin 512) (c : Fin 128) :
    (k0_pay3 x (ix2 kp c) : EReal) = (x (ix3 0 0 kp) : EReal) * scale2 := by
  have e : Named.named (F := Ideal) κ "scale_log2e" (φ := .f32) 0x3DE995B3#32 = scale2 :=
    IdealRules.named_const.ideal_named_scalar _ _ _ _ rfl
  pointwise [k0_pay3]
  rw [e]

theorem pay4_at (x : Vec Ideal S1x1x160x512 .fp8e4m3) (y : Vec Ideal S1x1x512 .f32) (d : Fin 160) (kp : Fin 512) :
    (k0_pay4 x y (ix2 d kp) : EReal) = (x (ix4 0 0 d kp) : EReal) * (y (ix3 0 0 kp) : EReal) := by
  pointwise [k0_pay4]

theorem pay5_at (x : Vec Ideal S1x1x160x512 .bf16) (d : Fin 160) (qp : Fin 512) :
    (k0_pay5 x (ix2 d qp) : EReal) = x (ix4 0 0 d qp) := by
  pointwise [k0_pay5]

/-- A load of one head's rows from a block of heads. -/
theorem rows4 {α : Type} {n : Nat} (X : (⟨4, ![1, n, 160, 512]⟩ : Shape).Idx → α) (a : Nat) (j : Fin n) (hj : j.val = a)
    (h : ∀ b, (![0, a, 0, 0] : Fin 4 → ℕ) b + S1x1x160x512.size b ≤ (⟨4, ![1, n, 160, 512]⟩ : Shape).size b)
    (x : Fin 160) (y : Fin 512) :
    X ((Rect.unit (s := ⟨4, ![1, n, 160, 512]⟩) ![0, a, 0, 0] S1x1x160x512.size h).idx (ix4 0 0 x y)) = X (ix4 0 j x y) := by
  refine congrArg X (funext fun b => Fin.ext ((Rect.idx_unit_val _ _ _ _ b).trans ?_))
  subst hj
  fin_cases b <;> simp

/-- A load of one row from a table of rows. -/
theorem rows3 {α : Type} {n w : Nat} (X : (⟨3, ![1, n, w]⟩ : Shape).Idx → α) (off : Fin 3 → ℕ) (a : Nat) (ho : off = ![0, a, 0])
    (j : Fin n) (hj : j.val = a)
    (h : ∀ b, off b + (⟨3, ![1, 1, w]⟩ : Shape).size b ≤ (⟨3, ![1, n, w]⟩ : Shape).size b) (y : Fin w) :
    X ((Rect.unit (s := ⟨3, ![1, n, w]⟩) off (⟨3, ![1, 1, w]⟩ : Shape).size h).idx (ix3 0 0 y)) = X (ix3 0 j y) := by
  refine congrArg X (funext fun b => Fin.ext ((Rect.idx_unit_val _ _ _ _ b).trans ?_))
  subst hj ho
  fin_cases b <;> simp

section
variable (i : grid0.Coords) (arg2 : Memref sig .tc .vmem S1x12x160x512 .bf16) (harg2 : arg2.IsWhole) (arg3 : Memref sig .tc .vmem S1x4x160x512 .fp8e4m3) (harg3 : arg3.IsWhole) (arg4 : Memref sig .tc .vmem S1x8x512 .f32) (harg4 : arg4.IsWhole) (arg5 : Memref sig .tc .vmem S1x4x160x512 .fp8e4m3) (harg5 : arg5.IsWhole) (arg6 : Memref sig .tc .vmem S1x8x512 .f32) (harg6 : arg6.IsWhole) (arg7 : Memref sig .tc .vmem S1x24x96 .i32) (harg7 : arg7.IsWhole) (arg8 : Memref sig .tc .vmem S1x24x224 .i32) (harg8 : arg8.IsWhole)
    (x0 : Vec Ideal S1x12x160x512 .bf16) (x1 : Vec Ideal S1x4x160x512 .fp8e4m3) (x2 : Vec Ideal S1x8x512 .f32) (x3 : Vec Ideal S1x4x160x512 .fp8e4m3) (x4 : Vec Ideal S1x8x512 .f32) (x5 : Vec Ideal S1x24x96 .i32) (x6 : Vec Ideal S1x24x224 .i32)

/-- A grid point's output for query head `hh` of its block, at (feature, query), in terms of the point's blocks. -/
def blockHead (half : Nat) (hhalf : half < 2) (hh : Fin 12) (d : Fin 160) (qp : Fin 512) : EReal :=
  headValue
    (Sees (fun n => x5 (ix3 0 ⟨12 * half + hh.val, by omega⟩ n)) (fun n => x6 (ix3 0 ⟨12 * half + hh.val, by omega⟩ n)))
    (fun x kp => x1 (ix4 0 ⟨hh.val / 3, by omega⟩ x kp)) (fun x qp => x0 (ix4 0 hh x qp))
    (fun kp => x2 (ix3 0 ⟨4 * half + hh.val / 3, by omega⟩ kp)) (fun kp => x3 (ix4 0 ⟨hh.val / 3, by omega⟩ d kp))
    (fun kp => x4 (ix3 0 ⟨4 * half + hh.val / 3, by omega⟩ kp)) qp

open Classical in
/-- The composition at the loads is the head's output in terms of the blocks. -/
theorem loadedHead_at (g : Fin 4) (r : Fin 3) (hq) (hk) (hh : Fin 12) (hg : hh.val / 3 = g.val) (hr : hh.val = 3 * g.val + r.val)
    (d : Fin 160) (qp : Fin 512) :
    (loadedHead i arg2 harg2 arg3 harg3 arg4 harg4 arg5 harg5 arg6 harg6 arg7 harg7 arg8 harg8 x0 x1 x2 x3 x4 x5 x6 g r hq hk
        (ix2 d qp) : EReal)
      = blockHead x0 x1 x2 x3 x4 x5 x6 (i 1).val (half_lt i) hh d qp := by
  have e0 (x : Fin 160) (y : Fin 512) : View.readAt (Elt Ideal) arg2.view (Rect.unit (s := S1x12x160x512) ![0, 3 * g.val + r.val, 0, 0] S1x1x160x512.size hq).toLoadRect (harg2.unread x0) (ix4 0 0 x y) = x0 (ix4 0 hh x y) :=
    (Memref.IsWhole.readAt_unread harg2 x0 _ _).trans (rows4 (n := 12) x0 _ hh hr hq x y)
  have e1 (x : Fin 160) (y : Fin 512) : View.readAt (Elt Ideal) arg3.view (Rect.unit (s := S1x4x160x512) ![0, g.val, 0, 0] S1x1x160x512.size hk).toLoadRect (harg3.unread x1) (ix4 0 0 x y) = x1 (ix4 0 ⟨hh.val / 3, by omega⟩ x y) :=
    (Memref.IsWhole.readAt_unread harg3 x1 _ _).trans (rows4 (n := 4) x1 _ _ hg hk x y)
  have e2 (y : Fin 512) : View.readAt (Elt Ideal) arg4.view (Rect.unit (s := S1x8x512) (k0_off1 i (BitVec.ofNat 32 g.val)) S1x1x512.size (k0_off1_inb i g)).toLoadRect (harg4.unread x2) (ix3 0 0 y) = x2 (ix3 0 ⟨4 * (i 1).val + hh.val / 3, by have := half_lt i; omega⟩ y) :=
    (Memref.IsWhole.readAt_unread harg4 x2 _ _).trans
      (rows3 (n := 8) (w := 512) x2 _ _ (off1_eq i g) _ (by simp only [hg]) (k0_off1_inb i g) y)
  have e3 (x : Fin 160) (y : Fin 512) : View.readAt (Elt Ideal) arg5.view (Rect.unit (s := S1x4x160x512) ![0, g.val, 0, 0] S1x1x160x512.size hk).toLoadRect (harg5.unread x3) (ix4 0 0 x y) = x3 (ix4 0 ⟨hh.val / 3, by omega⟩ x y) :=
    (Memref.IsWhole.readAt_unread harg5 x3 _ _).trans (rows4 (n := 4) x3 _ _ hg hk x y)
  have e4 (y : Fin 512) : View.readAt (Elt Ideal) arg6.view (Rect.unit (s := S1x8x512) (k0_off1 i (BitVec.ofNat 32 g.val)) S1x1x512.size (k0_off1_inb i g)).toLoadRect (harg6.unread x4) (ix3 0 0 y) = x4 (ix3 0 ⟨4 * (i 1).val + hh.val / 3, by have := half_lt i; omega⟩ y) :=
    (Memref.IsWhole.readAt_unread harg6 x4 _ _).trans
      (rows3 (n := 8) (w := 512) x4 _ _ (off1_eq i g) _ (by simp only [hg]) (k0_off1_inb i g) y)
  have e5 (y : Fin 96) : View.readAt (Elt Ideal) arg7.view (Rect.unit (s := S1x24x96) (k0_off2 i (BitVec.ofNat 32 g.val) (BitVec.ofNat 32 r.val)) S1x1x96.size (k0_off2_inb i g r)).toLoadRect (harg7.unread x5) (ix3 0 0 y) = x5 (ix3 0 ⟨12 * (i 1).val + hh.val, by have := half_lt i; omega⟩ y) :=
    (Memref.IsWhole.readAt_unread harg7 x5 _ _).trans
      (rows3 (n := 24) (w := 96) x5 _ _ (off2_eq i g r) _ (by simp only [hr]) (k0_off2_inb i g r) y)
  have e6 (y : Fin 224) : View.readAt (Elt Ideal) arg8.view (Rect.unit (s := S1x24x224) (k0_off3 i (BitVec.ofNat 32 g.val) (BitVec.ofNat 32 r.val)) S1x1x224.size (k0_off3_inb i g r)).toLoadRect (harg8.unread x6) (ix3 0 0 y) = x6 (ix3 0 ⟨12 * (i 1).val + hh.val, by have := half_lt i; omega⟩ y) :=
    (Memref.IsWhole.readAt_unread harg8 x6 _ _).trans
      (rows3 (n := 24) (w := 224) x6 _ _ (off3_eq i g r) _ (by simp only [hr]) (k0_off3_inb i g r) y)
  unfold loadedHead
  rw [headOut_at _ _ _ _ _ _ d qp (pay3_at _)]
  unfold blockHead headValue
  refine congrArg₂ attend (funext fun kp => ?_) (funext fun kp => ?_)
  · unfold column seesOf
    refine if_congr (iff_of_eq (congrArg₂ (fun a b => Sees a b qp kp) (funext e5) (funext e6))) ?_ rfl
    simp only [pay2_at, pay5_at, e0, e1, e2]
  · rw [pay4_at, e3, e4]

end

end Cert.KernelIdeal.Head

end
-- ==== Proof.KernelArr.lean ====
/-
  The kernel's result array, at every index.
-/
module

public import proofs.«01_k».proof.Proof.LoadedAt
public import proofs.«01_k».proof.Proof.Gen.KernelIdeal.Value

@[expose] public section

set_option maxRecDepth 16384

noncomputable section

namespace Cert.KernelIdeal.Head

open Cert.KernelIdeal Cert.KernelIdeal.Gen Idealize.ShloMosaic Idealize.ShloMosaic.TcCoe Idealize.SL.Sem
open Idealize.ShloMosaic.Pipeline (Dat)

section
variable (c : Dev nD) (i : grid0.Coords) (arg2 : Memref sig .tc .vmem S1x12x160x512 .bf16) (harg2 : arg2.IsWhole) (arg3 : Memref sig .tc .vmem S1x4x160x512 .fp8e4m3) (harg3 : arg3.IsWhole) (arg4 : Memref sig .tc .vmem S1x8x512 .f32) (harg4 : arg4.IsWhole) (arg5 : Memref sig .tc .vmem S1x4x160x512 .fp8e4m3) (harg5 : arg5.IsWhole) (arg6 : Memref sig .tc .vmem S1x8x512 .f32) (harg6 : arg6.IsWhole) (arg7 : Memref sig .tc .vmem S1x24x96 .i32) (harg7 : arg7.IsWhole) (arg8 : Memref sig .tc .vmem S1x24x224 .i32) (harg8 : arg8.IsWhole) (arg9 : Memref sig .tc .vmem S1x512x1920 .bf16) (harg9 : arg9.IsWhole)
    (x0 : Vec Ideal S1x12x160x512 .bf16) (x1 : Vec Ideal S1x4x160x512 .fp8e4m3) (x2 : Vec Ideal S1x8x512 .f32) (x3 : Vec Ideal S1x4x160x512 .fp8e4m3) (x4 : Vec Ideal S1x8x512 .f32) (x5 : Vec Ideal S1x24x96 .i32) (x6 : Vec Ideal S1x24x224 .i32)

/-- Four heads' stores at (query, column): head `n` of the four holds columns `160 n` to `160 n + 159`. -/
theorem store4_at (h0 h1 h2 h3 : FVec Ideal S160x512 .bf16) (B : Fin 12 → Fin 160 → Fin 512 → EReal) (a : Nat) (ha : a + 4 ≤ 12)
    (e0 : ∀ d qp, (h0 (ix2 d qp) : EReal) = B ⟨a, by omega⟩ d qp) (e1 : ∀ d qp, (h1 (ix2 d qp) : EReal) = B ⟨a + 1, by omega⟩ d qp)
    (e2 : ∀ d qp, (h2 (ix2 d qp) : EReal) = B ⟨a + 2, by omega⟩ d qp) (e3 : ∀ d qp, (h3 (ix2 d qp) : EReal) = B ⟨a + 3, by omega⟩ d qp)
    (qp : Fin 512) (col : Fin 640) (col' : Nat) (hc : col' = 160 * a + col.val) :
    (store4 h0 h1 h2 h3 (ix3 0 qp col) : EReal) = B ⟨col' / 160, by omega⟩ ⟨col' % 160, by omega⟩ qp := by
  subst hc
  have e (n : Nat) (hn : n < 4) (h : FVec Ideal S160x512 .bf16) (eh : ∀ d qp, (h (ix2 d qp) : EReal) = B ⟨a + n, by omega⟩ d qp)
      (x : Fin 160) (hx : col.val = 160 * n + x.val) :
      (h (ix2 x qp) : EReal) = B ⟨(160 * a + col.val) / 160, by omega⟩ ⟨(160 * a + col.val) % 160, by omega⟩ qp := by
    rw [eh]
    have h1 : (160 * a + col.val) / 160 = a + n := by omega
    have h2 : (160 * a + col.val) % 160 = x.val := by omega
    simp only [h1, h2]
  pointwise [store4]
  split
  · exact e 0 (by omega) h0 e0 _ (by simp only; omega)
  split
  · exact e 1 (by omega) h1 e1 _ (by simp only; omega)
  split
  · exact e 2 (by omega) h2 e2 _ (by simp only; omega)
  · exact e 3 (by omega) h3 e3 _ (by simp only; omega)

/-- The three stores of the kernel's body. -/
theorem stores : (kernelRun0_A (F := Ideal) c i arg2 harg2 arg3 harg3 arg4 harg4 arg5 harg5 arg6 harg6 arg7 harg7 arg8 harg8 arg9 harg9 x0 x1 x2 x3 x4 x5 x6).1
    = [⟨Rect.unit ![0, 0, 1280] ![1, 512, 640] inb_S1x512x1920_S1x512x640_0_0_1280, k0_pay1 (kernelRun0_A.sl.r_311 c i arg2 harg2 arg3 harg3 arg4 harg4 arg5 harg5 arg6 harg6 arg7 harg7 arg8 harg8 x0 x1 x2 x3 x4 x5 x6)⟩,
       ⟨Rect.unit ![0, 0, 640] ![1, 512, 640] inb_S1x512x1920_S1x512x640_0_0_640, kernelRun0_A.sl.v2832 c i arg2 harg2 arg3 harg3 arg4 harg4 arg5 harg5 arg6 harg6 arg7 harg7 arg8 harg8 x0 x1 x2 x3 x4 x5 x6⟩,
       ⟨Rect.unit ![0, 0, 0] ![1, 512, 640] inb_S1x512x1920_S1x512x640_0_0_0, kernelRun0_A.sl.v1428 c i arg2 harg2 arg3 harg3 arg4 harg4 arg5 harg5 arg6 harg6 arg7 harg7 arg8 harg8 x0 x1 x2 x3 x4 x5 x6⟩] := by
  unfold kernelRun0_A
  dsimp only

/-- What the body leaves in the output block, at (query, column). -/
theorem out_at (y : S1x512x1920.Idx) :
    (out0_A_7 (F := Ideal) c i arg2 harg2 arg3 harg3 arg4 harg4 arg5 harg5 arg6 harg6 arg7 harg7 arg8 harg8 arg9 harg9 x0 x1 x2 x3 x4 x5 x6 y : EReal)
      = blockHead x0 x1 x2 x3 x4 x5 x6 (i 1).val (half_lt i) ⟨(y 2).val / 160, by have : (y 2).val < 1920 := (y 2).isLt; omega⟩
          ⟨(y 2).val % 160, by omega⟩ (y 1) := by
  unfold out0_A_7
  rw [View.read_writes_junk_eq_canon, stores, store_first, store_second, store_third]
  canon_tiles x h
  · have hx : x = ix3 0 (x 1) (x 2) := (eq_ix3 x).trans (congrArg (fun z => ix3 z (x 1) (x 2)) (Fin.ext (Nat.lt_one_iff.mp (x 0).isLt)))
    have hy : y 1 = x 1 := Fin.ext h1
    rw [hy, hx]
    exact store4_at _ _ _ _ (fun hh d qp => blockHead x0 x1 x2 x3 x4 x5 x6 (i 1).val (half_lt i) hh d qp) 8 (by omega)
      (loadedHead_at i arg2 harg2 arg3 harg3 arg4 harg4 arg5 harg5 arg6 harg6 arg7 harg7 arg8 harg8 x0 x1 x2 x3 x4 x5 x6 2 2 _ _ ⟨8, by decide⟩ (by decide) (by decide))
      (loadedHead_at i arg2 harg2 arg3 harg3 arg4 harg4 arg5 harg5 arg6 harg6 arg7 harg7 arg8 harg8 x0 x1 x2 x3 x4 x5 x6 3 0 _ _ ⟨9, by decide⟩ (by decide) (by decide))
      (loadedHead_at i arg2 harg2 arg3 harg3 arg4 harg4 arg5 harg5 arg6 harg6 arg7 harg7 arg8 harg8 x0 x1 x2 x3 x4 x5 x6 3 1 _ _ ⟨10, by decide⟩ (by decide) (by decide))
      (loadedHead_at i arg2 harg2 arg3 harg3 arg4 harg4 arg5 harg5 arg6 harg6 arg7 harg7 arg8 harg8 x0 x1 x2 x3 x4 x5 x6 3 2 _ _ ⟨11, by decide⟩ (by decide) (by decide))
      (x 1) (x 2) (y 2).val (by omega)
  · have hx : x = ix3 0 (x 1) (x 2) := (eq_ix3 x).trans (congrArg (fun z => ix3 z (x 1) (x 2)) (Fin.ext (Nat.lt_one_iff.mp (x 0).isLt)))
    have hy : y 1 = x 1 := Fin.ext h1
    rw [hy, hx]
    exact store4_at _ _ _ _ (fun hh d qp => blockHead x0 x1 x2 x3 x4 x5 x6 (i 1).val (half_lt i) hh d qp) 4 (by omega)
      (loadedHead_at i arg2 harg2 arg3 harg3 arg4 harg4 arg5 harg5 arg6 harg6 arg7 harg7 arg8 harg8 x0 x1 x2 x3 x4 x5 x6 1 1 _ _ ⟨4, by decide⟩ (by decide) (by decide))
      (loadedHead_at i arg2 harg2 arg3 harg3 arg4 harg4 arg5 harg5 arg6 harg6 arg7 harg7 arg8 harg8 x0 x1 x2 x3 x4 x5 x6 1 2 _ _ ⟨5, by decide⟩ (by decide) (by decide))
      (loadedHead_at i arg2 harg2 arg3 harg3 arg4 harg4 arg5 harg5 arg6 harg6 arg7 harg7 arg8 harg8 x0 x1 x2 x3 x4 x5 x6 2 0 _ _ ⟨6, by decide⟩ (by decide) (by decide))
      (loadedHead_at i arg2 harg2 arg3 harg3 arg4 harg4 arg5 harg5 arg6 harg6 arg7 harg7 arg8 harg8 x0 x1 x2 x3 x4 x5 x6 2 1 _ _ ⟨7, by decide⟩ (by decide) (by decide))
      (x 1) (x 2) (y 2).val (by omega)
  · have hx : x = ix3 0 (x 1) (x 2) := (eq_ix3 x).trans (congrArg (fun z => ix3 z (x 1) (x 2)) (Fin.ext (Nat.lt_one_iff.mp (x 0).isLt)))
    have hy : y 1 = x 1 := Fin.ext h1
    rw [hy, hx]
    exact store4_at _ _ _ _ (fun hh d qp => blockHead x0 x1 x2 x3 x4 x5 x6 (i 1).val (half_lt i) hh d qp) 0 (by omega)
      (loadedHead_at i arg2 harg2 arg3 harg3 arg4 harg4 arg5 harg5 arg6 harg6 arg7 harg7 arg8 harg8 x0 x1 x2 x3 x4 x5 x6 0 0 _ _ ⟨0, by decide⟩ (by decide) (by decide))
      (loadedHead_at i arg2 harg2 arg3 harg3 arg4 harg4 arg5 harg5 arg6 harg6 arg7 harg7 arg8 harg8 x0 x1 x2 x3 x4 x5 x6 0 1 _ _ ⟨1, by decide⟩ (by decide) (by decide))
      (loadedHead_at i arg2 harg2 arg3 harg3 arg4 harg4 arg5 harg5 arg6 harg6 arg7 harg7 arg8 harg8 x0 x1 x2 x3 x4 x5 x6 0 2 _ _ ⟨2, by decide⟩ (by decide) (by decide))
      (loadedHead_at i arg2 harg2 arg3 harg3 arg4 harg4 arg5 harg5 arg6 harg6 arg7 harg7 arg8 harg8 x0 x1 x2 x3 x4 x5 x6 1 0 _ _ ⟨3, by decide⟩ (by decide) (by decide))
      (x 1) (x 2) (y 2).val (by omega)

end

end Cert.KernelIdeal.Head

end
-- ==== Proof.ArrValue.lean ====
/-
  The kernel's result array, at every index, in terms of the arguments.
-/
module

public import proofs.«01_k».proof.Proof.KernelArr
public import Idealize.ShloMosaic.Lib.Pipeline.ValueKit
public import Idealize.ShloMosaic.Lib.Claim

@[expose] public section

set_option maxRecDepth 16384

noncomputable section

namespace Cert.KernelIdeal.Head

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point: (batch, half of the heads). -/
theorem idx : ∀ t : Fin cfg0.N,
    win0_0.index t = ![(grid0.coords t 0).val, (grid0.coords t 1).val, 0, 0]
    ∧ win0_1.index t = ![(grid0.coords t 0).val, (grid0.coords t 1).val, 0, 0]
    ∧ win0_2.index t = ![(grid0.coords t 0).val, 0, 0]
    ∧ win0_3.index t = ![(grid0.coords t 0).val, (grid0.coords t 1).val, 0, 0]
    ∧ win0_4.index t = ![(grid0.coords t 0).val, 0, 0]
    ∧ win0_5.index t = ![(grid0.coords t 0).val, 0, 0]
    ∧ win0_6.index t = ![(grid0.coords t 0).val, 0, 0]
    ∧ win0_7.index t = ![(grid0.coords t 0).val, 0, (grid0.coords t 1).val] :=
  (by decide +kernel : ∀ t : Fin grid0.N, _)

/-- There are three batches. -/
theorem batch_lt (t : Fin cfg0.N) : (grid0.coords t 0).val < 3 := (grid0.coords t 0).isLt

/-- The queries' block: batch `b`, head `12 half + hh`. -/
theorem blk0 (c : Dev nD) (t : Fin cfg0.N) (hh : Fin 12) (x : Fin 160) (qp : Fin 512) :
    iblk m c 0 t (ix4 0 hh x qp)
      = m ((c : Thread nD τ).loc main_arg0) (ix4 ⟨(grid0.coords t 0).val, batch_lt t⟩ qp
          ⟨12 * (grid0.coords t 1).val + hh.val, by have := half_lt (grid0.coords t); omega⟩ x) := by
  blk_ext! [iblk, V, idx t]

/-- The keys' block: batch `b`, key head `4 half + g`. -/
theorem blk1 (c : Dev nD) (t : Fin cfg0.N) (g : Fin 4) (x : Fin 160) (kp : Fin 512) :
    iblk m c 1 t (ix4 0 g x kp)
      = m ((c : Thread nD τ).loc main_arg1) (ix4 ⟨(grid0.coords t 0).val, batch_lt t⟩ kp
          ⟨4 * (grid0.coords t 1).val + g.val, by have := half_lt (grid0.coords t); omega⟩ x) := by
  blk_ext! [iblk, V, idx t]

/-- The keys' scales' block: batch `b`. -/
theorem blk2 (c : Dev nD) (t : Fin cfg0.N) (g : Fin 8) (kp : Fin 512) :
    iblk m c 2 t (ix3 0 g kp)
      = m ((c : Thread nD τ).loc main_arg2) (ix3 ⟨(grid0.coords t 0).val, batch_lt t⟩ kp g) := by
  blk_ext! [iblk, V, idx t]

/-- The values' block: batch `b`, key head `4 half + g`. -/
theorem blk3 (c : Dev nD) (t : Fin cfg0.N) (g : Fin 4) (x : Fin 160) (kp : Fin 512) :
    iblk m c 3 t (ix4 0 g x kp)
      = m ((c : Thread nD τ).loc main_arg3) (ix4 ⟨(grid0.coords t 0).val, batch_lt t⟩ kp
          ⟨4 * (grid0.coords t 1).val + g.val, by have := half_lt (grid0.coords t); omega⟩ x) := by
  blk_ext! [iblk, V, idx t]

/-- The values' scales' block: batch `b`. -/
theorem blk4 (c : Dev nD) (t : Fin cfg0.N) (g : Fin 8) (kp : Fin 512) :
    iblk m c 4 t (ix3 0 g kp)
      = m ((c : Thread nD τ).loc main_arg4) (ix3 ⟨(grid0.coords t 0).val, batch_lt t⟩ kp g) := by
  blk_ext! [iblk, V, idx t]

/-- The vertical positions' block: batch `b`. -/
theorem blk5 (c : Dev nD) (t : Fin cfg0.N) (h : Fin 24) (n : Fin 96) :
    iblk m c 5 t (ix3 0 h n) = m ((c : Thread nD τ).loc main_arg5) (ix3 ⟨(grid0.coords t 0).val, batch_lt t⟩ h n) := by
  blk_ext! [iblk, V, idx t]

/-- The slash offsets' block: batch `b`. -/
theorem blk6 (c : Dev nD) (t : Fin cfg0.N) (h : Fin 24) (n : Fin 224) :
    iblk m c 6 t (ix3 0 h n) = m ((c : Thread nD τ).loc main_arg6) (ix3 ⟨(grid0.coords t 0).val, batch_lt t⟩ h n) := by
  blk_ext! [iblk, V, idx t]

/-- Query head `h`'s output at (batch, query, feature), from the arguments. -/
def headAt (a0 : FVec Ideal S3x512x24x160 .bf16) (a1 a3 : FVec Ideal S3x512x8x160 .fp8e4m3) (a2 a4 : FVec Ideal S3x512x8 .f32)
    (a5 : S3x24x96.Idx → BitVec 32) (a6 : S3x24x224.Idx → BitVec 32)
    (b : Fin 3) (h : Fin 24) (qp : Fin 512) (d : Fin 160) : EReal :=
  headValue (Sees (fun n => a5 (ix3 b h n)) fun n => a6 (ix3 b h n))
    (fun x kp => a1 (ix4 b kp ⟨h.val / 3, by omega⟩ x)) (fun x qp => a0 (ix4 b qp h x))
    (fun kp => a2 (ix3 b kp ⟨h.val / 3, by omega⟩)) (fun kp => a3 (ix4 b kp ⟨h.val / 3, by omega⟩ d))
    (fun kp => a4 (ix3 b kp ⟨h.val / 3, by omega⟩)) qp

/-- Head `hh` of a grid point's block is head `12 half + hh` of the arguments. -/
theorem blockHead_at (c : Dev nD) (t : Fin cfg0.N) (hh : Fin 12) (d : Fin 160) (qp : Fin 512) (h : Fin 24)
    (eh : h.val = 12 * (grid0.coords t 1).val + hh.val) :
    blockHead (iblk m c 0 t) (iblk m c 1 t) (iblk m c 2 t) (iblk m c 3 t) (iblk m c 4 t) (iblk m c 5 t) (iblk m c 6 t)
        (grid0.coords t 1).val (half_lt _) hh d qp
      = headAt (m ((c : Thread nD τ).loc main_arg0)) (m ((c : Thread nD τ).loc main_arg1)) (m ((c : Thread nD τ).loc main_arg3))
          (m ((c : Thread nD τ).loc main_arg2)) (m ((c : Thread nD τ).loc main_arg4)) (m ((c : Thread nD τ).loc main_arg5))
          (m ((c : Thread nD τ).loc main_arg6)) ⟨(grid0.coords t 0).val, batch_lt t⟩ h qp d := by
  obtain ⟨h, hlt⟩ := h
  simp only at eh
  subst eh
  have hdiv : (12 * (grid0.coords t 1).val + hh.val) / 3 = 4 * (grid0.coords t 1).val + hh.val / 3 := by omega
  unfold blockHead headAt
  simp only [blk0, blk1, blk2, blk3, blk4, blk5, blk6, hdiv]

/-- The array that the kernel leaves: at (batch, query, column), head `column / 160`'s output at feature `column % 160`. -/
theorem arr_at (c : Dev nD) :
    (dats m 0 c).arrAt 7 cfg0.N = fun i : S3x512x3840.Idx =>
      headAt (m ((c : Thread nD τ).loc main_arg0)) (m ((c : Thread nD τ).loc main_arg1)) (m ((c : Thread nD τ).loc main_arg3))
          (m ((c : Thread nD τ).loc main_arg2)) (m ((c : Thread nD τ).loc main_arg4)) (m ((c : Thread nD τ).loc main_arg5))
          (m ((c : Thread nD τ).loc main_arg6)) (i 0) ⟨(i 2).val / 160, by have : (i 2).val < 3840 := (i 2).isLt; omega⟩ (i 1)
          ⟨(i 2).val % 160, by omega⟩ := by
  refine (dats m 0 c).arrAt_eq_of_covers 7 _ (by decide +kernel) fun t _ y => ?_
  blk_simp
  rw [after0_7]
  unfold outsAt0
  rw [out_at]
  have hy2 : (y 2).val < 1920 := (y 2).isLt
  have e0 : (win0_7.blk t).view.emb y 0 = (⟨(grid0.coords t 0).val, batch_lt t⟩ : Fin 3) := Fin.ext (by
    have h : (y 0).val < 1 := (y 0).isLt
    blk_simp
    simp [idx t])
  have e1 : (win0_7.blk t).view.emb y 1 = y 1 := Fin.ext (by
    blk_simp
    simp [idx t])
  have e2 : win0_7.index t 2 = (grid0.coords t 1).val := by simp [idx t]
  rw [e0, e1]
  refine (blockHead_at m c t _ _ _ ⟨(win0_7.index t 2 * 1920 + (y 2).val) / 160, by have := half_lt (grid0.coords t); rw [e2]; omega⟩
    (by simp only [e2]; omega)).trans (congrArg _ ?_)
  exact Fin.ext (by simp only [e2]; omega)

end Cert.KernelIdeal.Head

end
-- ==== Proof.RefMask.lean ====
/-
  The reference's mask: query `qp` of a head may read key `kp`.
-/
module

public import proofs.«01_k».proof.Proof.Gen.ReferenceIdeal.Read
public import proofs.«01_k».proof.Proof.MaskAt
public import Idealize.ShloMosaic.Lib.Pointwise
public import Idealize.ShloMosaic.Lib.Routing.OpsOrder

@[expose] public section

set_option maxRecDepth 16384

noncomputable section

namespace Cert.ReferenceIdeal.Head

open Cert.ReferenceIdeal Cert.ReferenceIdeal.Gen Cert.ReferenceIdeal.Read Idealize.ShloMosaic Idealize.ShloMosaic.TcCoe Idealize.SL.Sem

/-- Equality of words, as a bit. -/
theorem eq_bit (a b : BitVec 32) : IntOp.cmpi CmpIPredicate.eq a b = 1#1 ↔ a = b :=
  ((show ∀ b : Bool, BitVec.ofBool b = 1#1 ↔ b = true by decide) _).trans beq_iff_eq

/-- «And» of bits. -/
theorem and_bit (a b : BitVec 1) : IntOp.andi a b = 1#1 ↔ a = 1#1 ∧ b = 1#1 :=
  (show ∀ a b : BitVec 1, a &&& b = 1#1 ↔ a = 1#1 ∧ b = 1#1 by decide) a b

/-- «Or» of bits. -/
theorem or_bit (a b : BitVec 1) : IntOp.ori a b = 1#1 ↔ a = 1#1 ∨ b = 1#1 :=
  (show ∀ a b : BitVec 1, a ||| b = 1#1 ↔ a = 1#1 ∨ b = 1#1 by decide) a b

/-- The difference of two positions is not negative exactly when the key does not come after the query. -/
theorem sge_bit (qp kp : Fin 512) :
    IntOp.cmpi CmpIPredicate.sge (BitVec.ofNat 32 qp.val - BitVec.ofNat 32 kp.val) 0#32 = 1#1 ↔ kp.val ≤ qp.val := by
  refine ((show ∀ b : Bool, BitVec.ofBool b = 1#1 ↔ b = true by decide) _).trans ?_
  have h1 : qp.val % 2 ^ 32 = qp.val := Nat.mod_eq_of_lt (by omega)
  have h2 : kp.val % 2 ^ 32 = kp.val := Nat.mod_eq_of_lt (by omega)
  rw [BitVec.sle_iff_toInt_le, BitVec.toInt_eq_toNat_cond (BitVec.ofNat 32 qp.val - _), BitVec.toNat_sub, BitVec.toNat_ofNat,
    BitVec.toNat_ofNat, h1, h2]
  have h0 : (0#32).toInt = 0 := by decide
  rw [h0]
  split <;> omega

/-- Where it is not negative it is the difference of the numbers. -/
theorem sub_pos' (qp kp : Fin 512) (h : kp.val ≤ qp.val) :
    BitVec.ofNat 32 qp.val - BitVec.ofNat 32 kp.val = BitVec.ofNat 32 (qp.val - kp.val) := by
  apply BitVec.eq_of_toNat_eq
  have h1 : qp.val % 2 ^ 32 = qp.val := Nat.mod_eq_of_lt (by omega)
  have h2 : kp.val % 2 ^ 32 = kp.val := Nat.mod_eq_of_lt (by omega)
  have h3 : (qp.val - kp.val) % 2 ^ 32 = qp.val - kp.val := Nat.mod_eq_of_lt (by omega)
  rw [BitVec.toNat_sub, BitVec.toNat_ofNat, BitVec.toNat_ofNat, BitVec.toNat_ofNat, h1, h2, h3]
  omega

/-- The difference of the positions. -/
theorem diff_at (qp kp : Fin 512) :
    val_main_v11 (F := Ideal) (ix2 qp kp) = BitVec.ofNat 32 qp.val - BitVec.ofNat 32 kp.val := by
  pointwise [val_main_v11, val_main_v10, val_main_v9, val_main_v8, val_main_v7, val_main_v6]
  rfl

/-- Key `kp` is one of the head's vertical positions. -/
theorem vert_at (x5 : IVec S3x24x96 32) (b : Fin 3) (h : Fin 24) (kp : Fin 512) :
    val_main_v18 (F := Ideal) x5 (ix3 b h kp) = 1#1 ↔ ∃ n, x5 (ix3 b h n) = BitVec.ofNat 32 kp.val := by
  pointwise [val_main_v18, val_main_v17, val_main_v16, val_main_v15, val_main_v14, val_main_v13, val_main_v12, val_main_v6, val_main_c]
  rw [Routing.fold_ori]
  simp only [Finset.mem_univ, true_and, eq_bit]

/-- The difference of the positions is one of the head's slash offsets. -/
theorem slash_at (x6 : IVec S3x24x224 32) (b : Fin 3) (h : Fin 24) (qp kp : Fin 512) :
    val_main_v25 (F := Ideal) x6 (ix4 b h qp kp) = 1#1
      ↔ ∃ n, x6 (ix3 b h n) = BitVec.ofNat 32 qp.val - BitVec.ofNat 32 kp.val := by
  pointwise [val_main_v25, val_main_v24, val_main_v23, val_main_v22, val_main_v21, val_main_v20, val_main_v19, val_main_c_0]
  rw [Routing.fold_ori]
  simp only [Finset.mem_univ, true_and, eq_bit, diff_at]

/-- The whole mask before it is split into key heads and queries of a key head. -/
theorem allowed_at (x5 : IVec S3x24x96 32) (x6 : IVec S3x24x224 32) (b : Fin 3) (h : Fin 24) (qp kp : Fin 512) :
    val_main_v33 (F := Ideal) x5 x6 (ix4 b h qp kp) = 1#1
      ↔ Cert.KernelIdeal.Head.Sees (fun n => x5 (ix3 b h n)) (fun n => x6 (ix3 b h n)) qp kp := by
  pointwise [val_main_v33, val_main_v32, val_main_v31, val_main_v30, val_main_v29, val_main_v28, val_main_v27, val_main_v26, val_main_c_1]
  rw [and_bit, or_bit, diff_at, sge_bit, vert_at, slash_at]
  refine and_congr_right fun hle => or_congr Iff.rfl (exists_congr fun n => ?_)
  rw [sub_pos' qp kp hle]

/-- The whole mask. -/
theorem mask_at (x5 : IVec S3x24x96 32) (x6 : IVec S3x24x224 32) (b : Fin 3) (g : Fin 8) (r : Fin 3) (qp kp : Fin 512) :
    val_main_v34 (F := Ideal) x5 x6 (ix5 b g r qp kp) = val_main_v33 (F := Ideal) x5 x6 (ix4 b ⟨3 * g.val + r.val, by omega⟩ qp kp) := by
  pointwise [val_main_v34]
  congr 2
  exact Fin.ext (by simp only; omega)

end Cert.ReferenceIdeal.Head

end
-- ==== Proof.RefValue.lean ====
/-
  What the reference computes, at every index.
-/
module

public import proofs.«01_k».proof.Proof.RefMask

@[expose] public section

set_option maxRecDepth 16384

noncomputable section

namespace Cert.ReferenceIdeal.Head

open Cert.ReferenceIdeal Cert.ReferenceIdeal.Gen Cert.ReferenceIdeal.Read Idealize.ShloMosaic Idealize.ShloMosaic.TcCoe Idealize.SL.Sem
open Cert.KernelIdeal.Head (Sees)

/-! ## One head, plainly -/

open Classical in
/-- A query's scores: the products of the query with the keys, scaled; minus infinity where the query may not look. -/
def score (sees : Nat → Nat → Prop) (k q : Fin 160 → Fin 512 → EReal) (ks : Fin 512 → EReal) (qp kp : Fin 512) : EReal :=
  if sees qp kp then (∑ x, k x kp * q x qp) * Ideal.div (ks kp) ((Real.sqrt 160 : ℝ) : EReal) else ⊥

/-- The exponential of a query's scores, less their maximum. -/
def expo (y : Fin 512 → EReal) (kp : Fin 512) : EReal := Ideal.exp (y kp - Finset.univ.sup y)

/-- The softmax of the scores, unnormalised where the weights add up to zero, times the values' scales, times the values. -/
def softmax (y v vs : Fin 512 → EReal) : EReal :=
  ∑ kp, v kp * (Ideal.div (expo y kp) (if ∑ x, expo y x = 0 then 1 else ∑ x, expo y x) * vs kp)

/-! ## The constants -/

/-- The square root of the head's width, 160. -/
theorem sqrt_head : Ideal.sqrt (Ideal.ofBits FTy.f32 0x43200000#32) = ((Real.sqrt 160 : ℝ) : EReal) := by
  have h : Ideal.ofBits FTy.f32 0x43200000#32 = ((160 : ℝ) : EReal) := by
    simp [Ideal.ofBits, Ideal.ieee, -EReal.coe_mul]; norm_num
  rw [h, Ideal.sqrt_coe, if_neg (by norm_num)]

/-- The mask's constant is minus infinity. -/
theorem neg_inf : Ideal.ofBits FTy.f32 0xFF800000#32 = ⊥ := by
  simp [Ideal.ofBits, Ideal.ieee]

/-- The guard's constant is one. -/
theorem one_bits : Ideal.ofBits FTy.f32 0x3F800000#32 = 1 := by
  simp [Ideal.ofBits, Ideal.ieee, -EReal.coe_mul]; norm_num

/-! ## The stages -/

/-- An exponential of a difference, at an index. -/
theorem exp_sub_at (a y : FVec Ideal S3x8x3x512x512 .f32) (i : S3x8x3x512x512.Idx) :
    (Host.exp (subf a y) i : EReal) = Ideal.exp ((a i : EReal) - (y i : EReal)) := rfl

section
variable (x0 : FVec Ideal S3x512x24x160 .bf16) (x2 x4 : FVec Ideal S3x512x8 .f32) (x5 : IVec S3x24x96 32) (x6 : IVec S3x24x224 32)
  (r0 r1 : FVec Ideal S3x512x8x160 .bf16)

/-- The keys' scales over the square root of the head's width. -/
theorem scale_at (b : Fin 3) (g : Fin 8) (kp : Fin 512) :
    (val_main_v4 (F := Ideal) x2 (ix3 b g kp) : EReal) = Ideal.div (x2 (ix3 b kp g)) ((Real.sqrt 160 : ℝ) : EReal) := by
  pointwise [val_main_v4, val_main_v3, val_main_v2, val_main_v1, val_main_cst]
  exact congrArg _ sqrt_head

/-- The scaled products of queries and keys. -/
theorem dot_at (b : Fin 3) (g : Fin 8) (r : Fin 3) (qp kp : Fin 512) :
    (val_main_v40 (F := Ideal) x0 x2 r0 (ix5 b g r qp kp) : EReal)
      = (∑ x, (r0 (ix4 b kp g x) : EReal) * (x0 (ix4 b qp ⟨g.val * 3 + r.val, by omega⟩ x) : EReal))
        * (val_main_v4 (F := Ideal) x2 (ix3 b g kp) : EReal) := by
  pointwise [val_main_v40, val_main_v39, val_main_v38, val_main_v37, val_main_v36, val_main_v35]

/-- The scores of query head `3 g + r`, as the reference has them. -/
def scores (b : Fin 3) (g : Fin 8) (r : Fin 3) (qp kp : Fin 512) : EReal :=
  score (Sees (fun n => x5 (ix3 b ⟨3 * g.val + r.val, by omega⟩ n)) fun n => x6 (ix3 b ⟨3 * g.val + r.val, by omega⟩ n))
    (fun x kp => r0 (ix4 b kp g x)) (fun x qp => x0 (ix4 b qp ⟨3 * g.val + r.val, by omega⟩ x)) (fun kp => x2 (ix3 b kp g)) qp kp

open Classical in
/-- The masked scores. -/
theorem scores_at (b : Fin 3) (g : Fin 8) (r : Fin 3) (qp kp : Fin 512) :
    (val_main_v41 (F := Ideal) x0 x2 x5 x6 r0 (ix5 b g r qp kp) : EReal) = scores x0 x2 x5 x6 r0 b g r qp kp := by
  pointwise [val_main_v41, val_main_call0_v1]
  have hb : ((val_main_call0_v0 (F := Ideal) ix0) : EReal) = ⊥ := neg_inf
  have hh : (⟨g.val * 3 + r.val, by omega⟩ : Fin 24) = ⟨3 * g.val + r.val, by omega⟩ := Fin.ext (by simp only; omega)
  rw [hb, mask_at, dot_at, scale_at, hh]
  unfold scores score Scalar.select
  exact if_congr (allowed_at x5 x6 b _ qp kp) rfl rfl

/-- A query's largest score. -/
theorem max_at (b : Fin 3) (g : Fin 8) (r : Fin 3) (qp kp : Fin 512) :
    (val_main_v44 (F := Ideal) x0 x2 x5 x6 r0 (ix5 b g r qp kp) : EReal) = Finset.univ.sup (scores x0 x2 x5 x6 r0 b g r qp) := by
  pointwise [val_main_v44, val_main_v43, val_main_v42, val_main_cst_3]
  rw [neg_inf]
  simp only [scores_at]
  rfl

/-- The exponentials. -/
theorem exp_at (b : Fin 3) (g : Fin 8) (r : Fin 3) (qp kp : Fin 512) :
    (val_main_v46 (F := Ideal) x0 x2 x5 x6 r0 (ix5 b g r qp kp) : EReal) = expo (scores x0 x2 x5 x6 r0 b g r qp) kp := by
  unfold val_main_v46 val_main_v45
  refine (exp_sub_at _ _ _).trans ?_
  rw [max_at, scores_at]
  rfl

/-- The normaliser. -/
theorem total_at (b : Fin 3) (g : Fin 8) (r : Fin 3) (qp kp : Fin 512) :
    (val_main_v52 (F := Ideal) x0 x2 x5 x6 r0 (ix5 b g r qp kp) : EReal)
      = if ∑ x, expo (scores x0 x2 x5 x6 r0 b g r qp) x = 0 then 1 else ∑ x, expo (scores x0 x2 x5 x6 r0 b g r qp) x := by
  pointwise [val_main_v52, val_main_v51, val_main_v50, val_main_v49, val_main_v48, val_main_v47, val_main_cst_4, val_main_cst_5,
    val_main_call1_v1]
  have h1 : ((val_main_call1_v0 (F := Ideal) ix0) : EReal) = 1 := one_bits
  rw [h1]
  simp only [exp_at]

/-- The weights, times the values' scales. -/
theorem pv_at (b : Fin 3) (g : Fin 8) (r : Fin 3) (qp kp : Fin 512) :
    (val_main_v57 (F := Ideal) x0 x2 x4 x5 x6 r0 (ix5 b g r qp kp) : EReal)
      = Ideal.div (val_main_v46 (F := Ideal) x0 x2 x5 x6 r0 (ix5 b g r qp kp)) (val_main_v52 (F := Ideal) x0 x2 x5 x6 r0 (ix5 b g r qp kp))
        * (x4 (ix3 b kp g) : EReal) := by
  pointwise [val_main_v57, val_main_v56, val_main_v55, val_main_v54, val_main_v53, val_main_v5]

/-- The output of query head `3 g + r`. -/
theorem head_at (b : Fin 3) (g : Fin 8) (r : Fin 3) (qp : Fin 512) (d : Fin 160) :
    (val_main_v59 (F := Ideal) x0 x2 x4 x5 x6 r0 r1 (ix5 b qp g r d) : EReal)
      = softmax (scores x0 x2 x5 x6 r0 b g r qp) (fun kp => r1 (ix4 b kp g d)) fun kp => x4 (ix3 b kp g) := by
  pointwise [val_main_v59, val_main_v58]
  unfold softmax
  refine Finset.sum_congr rfl fun kp _ => congrArg _ ?_
  rw [pv_at, exp_at, total_at]

/-- The result, at (batch, query, column). -/
theorem res_at (b : Fin 3) (qp : Fin 512) (col : Fin 3840) :
    (val_main_v61 (F := Ideal) x0 x2 x4 x5 x6 r0 r1 (ix3 b qp col) : EReal)
      = softmax (scores x0 x2 x5 x6 r0 b ⟨col.val / 480, by omega⟩ ⟨col.val / 160 % 3, by omega⟩ qp)
          (fun kp => r1 (ix4 b kp ⟨col.val / 480, by omega⟩ ⟨col.val % 160, by omega⟩))
          fun kp => x4 (ix3 b kp ⟨col.val / 480, by omega⟩) := by
  pointwise [val_main_v61, val_main_v60]
  rw [head_at]

end

end Cert.ReferenceIdeal.Head

end
-- ==== Proof.RefArr.lean ====
/-
  The reference's result array, in terms of the arguments.
-/
module

public import proofs.«01_k».proof.Proof.RefValue
public import Idealize.ShloMosaic.Lib.Pipeline.ValueKit

@[expose] public section

set_option maxRecDepth 16384

noncomputable section

namespace Cert.ReferenceIdeal.Head

open Cert.ReferenceIdeal Cert.ReferenceIdeal.Gen Cert.ReferenceIdeal.Read Idealize.ShloMosaic Idealize.ShloMosaic.TcCoe Idealize.SL.Sem
open Idealize.ShloMosaic.Pipeline (Dat)
open Cert.ReferenceIdeal.Value (exitV reg_main_v0_0 reg_main_v0_1)

variable (m : (ℓ : Loc nD τ sig) → Buf (Elt Ideal) ℓ)

/-- The widening's one point has every window whole. -/
theorem idx : ∀ t : Fin cfg0.N, win0_0.index t = ![0, 0, 0, 0] ∧ win0_1.index t = ![0, 0, 0, 0] ∧ win0_2.index t = ![0, 0, 0, 0]
    ∧ win0_3.index t = ![0, 0, 0, 0] :=
  (by decide +kernel : ∀ t : Fin grid0.N, _)

/-- The widened keys are the keys. -/
theorem keys (c : Dev nD) (i : S3x512x8x160.Idx) :
    (reg_main_v0_0 (F := Ideal) m c i : EReal) = m ((c : Thread nD τ).loc main_arg1) i := by
  suffices h : (dats m 0 c).arrAt 2 cfg0.N = fun i : S3x512x8x160.Idx => (m ((c : Thread nD τ).loc main_arg1) i : EReal) from congrFun h i
  refine (dats m 0 c).arrAt_eq_of_covers 2 _ (by decide +kernel) fun t _ y => ?_
  blk_simp
  rw [after0_2]
  frame_out
  pointwise [k0_pay1]
  blk_ext [iblk, V, idx t]

/-- The widened values are the values. -/
theorem values (c : Dev nD) (i : S3x512x8x160.Idx) :
    (reg_main_v0_1 (F := Ideal) m c i : EReal) = m ((c : Thread nD τ).loc main_arg3) i := by
  suffices h : (dats m 0 c).arrAt 3 cfg0.N = fun i : S3x512x8x160.Idx => (m ((c : Thread nD τ).loc main_arg3) i : EReal) from congrFun h i
  refine (dats m 0 c).arrAt_eq_of_covers 3 _ (by decide +kernel) fun t _ y => ?_
  blk_simp
  rw [after0_3]
  frame_out
  pointwise [k0_pay2]
  blk_ext [iblk, V, idx t]

/-- The array that the reference leaves. -/
theorem arr_at (c : Dev nD) (i : S3x512x3840.Idx) :
    (val_main_v61 (F := Ideal) (exitV m c (Proc.devRef .tc main_arg0)) (exitV m c (Proc.devRef .tc main_arg2))
        (exitV m c (Proc.devRef .tc main_arg4)) (exitV m c (Proc.devRef .tc main_arg5)) (exitV m c (Proc.devRef .tc main_arg6))
        (exitV m c (Proc.devRef .tc main_v0_0)) (exitV m c (Proc.devRef .tc main_v0_1)) i : EReal)
      = softmax
          (scores (m ((c : Thread nD τ).loc main_arg0)) (m ((c : Thread nD τ).loc main_arg2)) (m ((c : Thread nD τ).loc main_arg5))
            (m ((c : Thread nD τ).loc main_arg6)) (m ((c : Thread nD τ).loc main_arg1)) (i 0)
            ⟨(i 2).val / 480, by have : (i 2).val < 3840 := (i 2).isLt; omega⟩ ⟨(i 2).val / 160 % 3, by omega⟩ (i 1))
          (fun kp => m ((c : Thread nD τ).loc main_arg3)
            (ix4 (i 0) kp ⟨(i 2).val / 480, by have : (i 2).val < 3840 := (i 2).isLt; omega⟩ ⟨(i 2).val % 160, by omega⟩))
          fun kp => m ((c : Thread nD τ).loc main_arg4)
            (ix3 (i 0) kp ⟨(i 2).val / 480, by have : (i 2).val < 3840 := (i 2).isLt; omega⟩) := by
  rw [Value.exit_main_arg0, Value.exit_main_arg2, Value.exit_main_arg4, Value.exit_main_arg5, Value.exit_main_arg6,
    Value.exit_main_v0_0, Value.exit_main_v0_1,
    show reg_main_v0_0 (F := Ideal) m c = m ((c : Thread nD τ).loc main_arg1) from funext (keys m c),
    show reg_main_v0_1 (F := Ideal) m c = m ((c : Thread nD τ).loc main_arg3) from funext (values m c)]
  exact (congrArg _ (eq_ix3 i)).trans (res_at _ _ _ _ _ _ _ (i 0) (i 1) (i 2))

end Cert.ReferenceIdeal.Head

end
-- ==== Proof.Algebra.lean ====
/-
  The kernel's softmax of base 2 with the division at the end is the reference's softmax of base e with the division at
  every weight, over the extended reals.
-/
module

public import proofs.«01_k».proof.Proof.LoadedAt
public import proofs.«01_k».proof.Proof.RefValue

@[expose] public section

noncomputable section

namespace Cert.Softmax

open Idealize.ShloMosaic
open Cert.KernelIdeal.Head (attend weight headValue scale2)
open Cert.ReferenceIdeal.Head (expo softmax score)

/-- One over the logarithm of 2: exponentials of base 2 take exponents so much larger. -/
def c2 : ℝ := (Real.log 2)⁻¹

/-- It is positive. -/
theorem c2_pos : 0 < c2 := inv_pos.mpr (Real.log_pos (by norm_num))

/-- It is not negative, as an extended real. -/
theorem c2_nonneg : (0 : EReal) ≤ (c2 : EReal) := EReal.coe_nonneg.mpr c2_pos.le

/-- `2 ^ (z / log 2) = exp z`, at the infinities too. -/
theorem exp2_mul (z : EReal) : Ideal.exp2 (z * (c2 : EReal)) = Ideal.exp z := by
  induction z with
  | bot => rw [EReal.bot_mul_coe_of_pos c2_pos]; rfl
  | top => rw [EReal.top_mul_coe_of_pos c2_pos]; rfl
  | coe r =>
    rw [← EReal.coe_mul]
    show ((Real.rpow 2 (r * c2) : ℝ) : EReal) = ((Real.exp r : ℝ) : EReal)
    congr 1
    show (2 : ℝ) ^ (r * c2) = Real.exp r
    rw [Real.rpow_def_of_pos (by norm_num)]
    congr 1
    have h : Real.log 2 ≠ 0 := (Real.log_pos (by norm_num)).ne'
    unfold c2
    field_simp

/-- Scaling by a positive number keeps the largest score the largest. -/
theorem sup_mul (y : Fin 512 → EReal) :
    Finset.univ.sup (fun k => y k * (c2 : EReal)) = Finset.univ.sup y * (c2 : EReal) := by
  have hm : Monotone fun z : EReal => z * (c2 : EReal) := fun a b h => mul_le_mul_of_nonneg_right h c2_nonneg
  exact (Finset.comp_sup_eq_sup_comp (fun z : EReal => z * (c2 : EReal)) (fun a b => hm.map_sup a b)
    (EReal.bot_mul_coe_of_pos c2_pos)).symm

/-- Scaling goes into a difference, at the infinities too. -/
theorem sub_mul_c2 (a b : EReal) : (a - b) * (c2 : EReal) = a * (c2 : EReal) - b * (c2 : EReal) := by
  rw [sub_eq_add_neg, sub_eq_add_neg, ← EReal.neg_mul]
  exact EReal.right_distrib_of_nonneg_of_ne_top c2_nonneg (EReal.coe_ne_top _) _ _

/-- The kernel's weights are the reference's. -/
theorem weight_mul (y : Fin 512 → EReal) (k : Fin 512) : weight (fun k => y k * (c2 : EReal)) k = expo y k := by
  unfold weight expo
  rw [sup_mul, ← sub_mul_c2, exp2_mul]

/-- A weight is not negative. -/
theorem expo_nonneg (y : Fin 512 → EReal) (k : Fin 512) : 0 ≤ expo y k := by
  unfold expo
  generalize y k - Finset.univ.sup y = z
  induction z with
  | bot => exact le_refl _
  | top => exact le_top
  | coe r => exact EReal.coe_nonneg.mpr (Real.exp_pos r).le

/-- A finite factor that is not negative goes into a sum. -/
theorem sum_mul (f : Fin 512 → EReal) (c : EReal) (h0 : 0 ≤ c) (ht : c ≠ ⊤) : (∑ k, f k) * c = ∑ k, f k * c := by
  induction (Finset.univ : Finset (Fin 512)) using Finset.induction_on with
  | empty => simp
  | insert a s ha ih =>
    rw [Finset.sum_insert ha, Finset.sum_insert ha, EReal.right_distrib_of_nonneg_of_ne_top h0 ht, ih]

/-- One division at the end is a division of every weight; where the weights add up to zero both sides are zero. -/
theorem attend_eq (y v vs : Fin 512 → EReal) :
    attend (fun k => y k * (c2 : EReal)) (fun k => v k * vs k) = softmax y v vs := by
  unfold attend softmax
  simp only [weight_mul]
  by_cases hl : ∑ x, expo y x = 0
  · have hz (k : Fin 512) : expo y k = 0 :=
      (Finset.sum_eq_zero_iff_of_nonneg (fun k _ => expo_nonneg y k)).mp hl k (Finset.mem_univ k)
    simp [hz, Ideal.div]
  · rw [if_neg hl]
    have hn : 0 ≤ ∑ x, expo y x := Finset.sum_nonneg fun k _ => expo_nonneg y k
    generalize ∑ x, expo y x = l at hl hn
    have hd (a : EReal) : Ideal.div a l = a * l⁻¹ := by unfold Ideal.div; rw [if_neg hl]
    have ht : l⁻¹ ≠ ⊤ := by
      induction l with
      | bot => simp
      | top => simp
      | coe r => rw [← EReal.coe_inv]; exact EReal.coe_ne_top _
    rw [hd, one_mul, sum_mul _ _ (EReal.inv_nonneg_of_nonneg hn) ht]
    refine Finset.sum_congr rfl fun k _ => ?_
    rw [hd]
    ac_rfl

/-- The kernel's scores are the reference's, over the logarithm of 2. -/
theorem head_eq (sees : Nat → Nat → Prop) (k q : Fin 160 → Fin 512 → EReal) (ks v vs : Fin 512 → EReal) (qp : Fin 512) :
    headValue sees k q ks v vs qp = softmax (score sees k q ks qp) v vs := by
  rw [← attend_eq]
  unfold headValue
  refine congrArg (fun X => attend X _) (funext fun kp => ?_)
  unfold score
  split
  · have h160 : Real.sqrt 160 ≠ 0 := (Real.sqrt_pos.mpr (by norm_num)).ne'
    rw [Ideal.div_coe h160, one_div]
    unfold scale2 c2
    rw [EReal.coe_mul]
    ac_rfl
  · exact (EReal.bot_mul_coe_of_pos c2_pos).symm

end Cert.Softmax

end
-- ==== Proof.lean ====
/-
  The claims of the statement: each program runs to its end without fault and leaves its arguments unchanged, the ideal
  kernel is the kernel over the extended reals, and the ideal kernel and the reference leave the same array.

  What the kernel's array holds is `Cert.KernelIdeal.Head.arr_at`, what the reference's holds is
  `Cert.ReferenceIdeal.Head.arr_at`, and that one head's value is the same in both is `Cert.Softmax.head_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.ArrValue
public import proofs.«01_k».proof.Proof.RefArr
public import proofs.«01_k».proof.Proof.Algebra
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two arrays are the same: at every index, the same head's value from the same arguments. -/
theorem arrays (a0 : FVec Ideal KernelIdeal.S3x512x24x160 .bf16) (a1 a3 : FVec Ideal KernelIdeal.S3x512x8x160 .fp8e4m3)
    (a2 a4 : FVec Ideal KernelIdeal.S3x512x8 .f32) (a5 : IVec KernelIdeal.S3x24x96 32) (a6 : IVec KernelIdeal.S3x24x224 32)
    (b : Fin 3) (qp : Fin 512) (col : Fin 3840) :
    ReferenceIdeal.Head.softmax
        (ReferenceIdeal.Head.scores a0 a2 a5 a6 a1 b ⟨col.val / 480, by omega⟩ ⟨col.val / 160 % 3, by omega⟩ qp)
        (fun kp => a3 (ix4 b kp ⟨col.val / 480, by omega⟩ ⟨col.val % 160, by omega⟩))
        (fun kp => a4 (ix3 b kp ⟨col.val / 480, by omega⟩))
      = KernelIdeal.Head.headAt a0 a1 a3 a2 a4 a5 a6 b ⟨col.val / 160, by omega⟩ qp ⟨col.val % 160, by omega⟩ := by
  have h1 : col.val / 160 / 3 = col.val / 480 := by omega
  have h2 : 3 * (col.val / 480) + col.val / 160 % 3 = col.val / 160 := by omega
  unfold KernelIdeal.Head.headAt
  rw [Softmax.head_eq]
  unfold ReferenceIdeal.Head.scores
  simp only [h1, h2]

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => Cert.ReferenceIdeal.Gen.frame m ρ,
    ⟨IdealRules.named_const.statement _ _ _ _ _ rfl, IdealRules.named_const.statement _ _ _ _ _ rfl⟩, ?_⟩
  pair_intro
  · run_from Cert.KernelIdeal.Value.run_blocks m g
  · run_from Cert.ReferenceIdeal.Value.run m' g'
    obtain ⟨h0, h1, h2, h3, h4, h5, h6⟩ := hagree c
    refine (Cert.ReferenceIdeal.Read.val_main_v61_eq (F := Ideal) (Cert.ReferenceIdeal.Value.exitV m' c)).trans (funext fun i => ?_)
    refine (Cert.ReferenceIdeal.Head.arr_at m' c i).trans ?_
    rw [h0, h1, h2, h3, h4, h5, h6, Cert.KernelIdeal.Head.arr_at]
    exact arrays _ _ _ _ _ _ _ (i 0) (i 1) (i 2)⟩

end Cert.Proof

end
